-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_rows_met [hKernelIdeal : Cert.KernelIdeal.Facts] [hReferenceIdeal : Cert.ReferenceIdeal.Facts] [hOn_rows_met : Cert.On_rows_met.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![1024, 32768]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 32]⟩ : Shape).Idx, (Cert.On_rows_met.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 32]⟩ : Shape).Idx, (Cert.On_rows_met.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_rows_met : Cert.On_rows_met.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_rows_met (hKernelIdeal := hKernelIdeal) (hReferenceIdeal := hReferenceIdeal) (hOn_rows_met := hOn_rows_met)
-- ==== On_rows_met.lean ====
abbrev S1024x32768 : Shape := ⟨2, ![1024, 32768]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x31 : Shape := ⟨2, ![1024, 31]⟩
abbrev S1024 : Shape := ⟨1, ![1024]⟩
abbrev S1024x1 : Shape := ⟨2, ![1024, 1]⟩
abbrev S1024x4x64x128 : Shape := ⟨4, ![1024, 4, 64, 128]⟩
abbrev S1024x4x128 : Shape := ⟨3, ![1024, 4, 128]⟩

class Facts : Prop where
  slices_S1024x32768_S1024x32_0_0 : S1024x32768.Slices ![0, 0] S1024x32
  bcast_S_S1024x32 : S_.BroadcastsInDim S1024x32 (![] : Fin 0 → Fin S1024x32.rank)
  shapeCasts_S1024x32_S1024x32x1 : S1024x32.ShapeCasts S1024x32x1
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  slices_S1024x32_S1024x31_0_1 : S1024x32.Slices ![0, 1] S1024x31
  slices_S1024x32_S1024x31_0_0 : S1024x32.Slices ![0, 0] S1024x31
  reducesTo_S1024x31_S1024_d1 : S1024x31.ReducesTo [1] S1024
  slices_S1024x32_S1024x1_0_31 : S1024x32.Slices ![0, 31] S1024x1
  bcast_S1024x1_S1024x32768_0_1 : S1024x1.BroadcastsInDim S1024x32768 (![0, 1] : Fin 2 → Fin S1024x32768.rank)
  shapeCasts_S1024x32768_S1024x4x64x128 : S1024x32768.ShapeCasts S1024x4x64x128
  natLt_1_32 : 1 < 32
  reducesTo_S1024x4x64x128_S1024x4x128_d2 : S1024x4x64x128.ReducesTo [2] S1024x4x128
  bcast_S_S1024x4x128 : S_.BroadcastsInDim S1024x4x128 (![] : Fin 0 → Fin S1024x4x128.rank)
  reducesTo_S1024x4x128_S1024_d1_2 : S1024x4x128.ReducesTo [1, 2] S1024
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  gather_S1024x32768_S1024x32x1_S1024x32_n_1_0_0_1_2_11_wf : GatherDims.WF S1024x32768 S1024x32x1 S1024x32 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S1024x32768_S1024x32x1_S1024x32_n_1_0_0_1_2_11 : GatherDims S1024x32768 S1024x32x1 S1024x32 where
  offsetDims := []
  collapsedSliceDims := [1]
  operandBatchingDims := [0]
  startIndicesBatchingDims := [0]
  startIndexMap := [1]
  indexVectorDim := 2
  sliceSizes := ![1, 1]
  wf := gather_S1024x32768_S1024x32x1_S1024x32_n_1_0_0_1_2_11_wf

def fn_argsort {F : FTy → Type} [FloatOps F] (arg0 : FVec F S1024x32768 .f32) : IVec S1024x32768 32 :=
  let v0 : IVec S1024x32768 32 := iotaInDim S1024x32768 32 1
  let v1_0 : FVec F S1024x32768 .f32 := (fun x y => (Host.sort2 S1024x32768 1 comparator_f32_i32_d1 x y).1) arg0 v0
  let v1_1 : IVec S1024x32768 32 := (fun x y => (Host.sort2 S1024x32768 1 comparator_f32_i32_d1 x y).2) arg0 v0
  v1_1

def fn_take_along_axis {F : FTy → Type} [FloatOps F] (arg0 : FVec F S1024x32768 .f32) (arg1 : IVec S1024x32 32) : FVec F S1024x32 .f32 :=
  let c : IVec S_ 32 := constantI S_ 32 0#32
  let v0 : IVec S1024x32 32 := broadcastInDim S1024x32 ![] bcast_S_S1024x32 c
  let v1 : IVec S1024x32 1 := cmpi .slt arg1 v0
  let c_0 : IVec S_ 32 := constantI S_ 32 32768#32
  let v2 : IVec S1024x32 32 := broadcastInDim S1024x32 ![] bcast_S_S1024x32 c_0
  let v3 : IVec S1024x32 32 := addi arg1 v2
  let v4 : IVec S1024x32 32 := select v1 v3 arg1
  let v5 : IVec S1024x32x1 32 := shapeCast S1024x32x1 v4 shapeCasts_S1024x32_S1024x32x1
  let c_1 : IVec S1 32 := constantI S1 32 32767#32
  let c_2 : IVec S_ 32 := constantI S_ 32 0#32
  let v6 : IVec S1024x32x1 32 := broadcastInDim S1024x32x1 ![] bcast_S_S1024x32x1 c_2
  let v7 : IVec S1024x32x1 1 := cmpi .sge v5 v6
  let v8 : IVec S1x1x1 32 := broadcastInDim S1x1x1 ![2] bcast_S1_S1x1x1_2 c_1
  let v9 : IVec S1024x32x1 32 := broadcastInDim S1024x32x1 ![0, 1, 2] bcast_S1x1x1_S1024x32x1_0_1_2 v8
  let v10 : IVec S1024x32x1 1 := cmpi .sle v5 v9
  let v11 : IVec S1024x32x1 1 := andi v7 v10
  let c_3 : IVec S_ 1 := constantI S_ 1 1#1
  let v12 : IVec S1024x32 1 := (fun x v => Host.reduce IntOp.andi x v reducesTo_S1024x32x1_S1024x32_d2 h_S_) v11 c_3
  let v13 : FVec F S1024x32 .f32 := (fun x i => Host.gather gather_S1024x32768_S1024x32x1_S1024x32_n_1_0_0_1_2_11 x i) arg0 v5
  let cst : FVec F S_ .f32 := constant S_ .f32 0x7FC00000#32
  let v14 : FVec F S1024x32 .f32 := broadcastInDim S1024x32 ![] bcast_S_S1024x32 cst
  let v15 : FVec F S1024x32 .f32 := select v12 v13 v14
  v15

def fn {F : FTy → Type} [FloatOps F] (main_arg0 : FVec F S1024x32768 .f32) : IVec S1024x32 1 :=
  let main_v0 : FVec F S1024x32768 .f32 := Host.negf main_arg0
  let main_v1 : IVec S1024x32768 32 := fn_argsort (F := F) main_v0
  let main_v2 : IVec S1024x32 32 := (extractStridedSlice S1024x32 ![0, 0] · slices_S1024x32768_S1024x32_0_0) main_v1
  let main_v3 : FVec F S1024x32 .f32 := fn_take_along_axis (F := F) main_arg0 main_v2
  let main_v4 : FVec F S1024x31 .f32 := (extractStridedSlice S1024x31 ![0, 1] · slices_S1024x32_S1024x31_0_1) main_v3
  let main_v5 : FVec F S1024x31 .f32 := (extractStridedSlice S1024x31 ![0, 0] · slices_S1024x32_S1024x31_0_0) main_v3
  let main_v6 : IVec S1024x31 1 := cmpf .olt main_v4 main_v5
  let main_c : IVec S_ 1 := constantI S_ 1 1#1
  let main_v7 : IVec S1024 1 := (fun x v => Host.reduce IntOp.andi x v reducesTo_S1024x31_S1024_d1 h_S_) main_v6 main_c
  let main_v8 : FVec F S1024x1 .f32 := (extractStridedSlice S1024x1 ![0, 31] · slices_S1024x32_S1024x1_0_31) main_v3
  let main_v9 : FVec F S1024x32768 .f32 := broadcastInDim S1024x32768 ![0, 1] bcast_S1024x1_S1024x32768_0_1 main_v8
  let main_v10 : IVec S1024x32768 1 := cmpf .oge main_arg0 main_v9
  let main_v11 : IVec S1024x4x64x128 1 := shapeCast S1024x4x64x128 main_v10 shapeCasts_S1024x32768_S1024x4x64x128
  let main_v12 : IVec S1024x4x64x128 32 := (extui 32 · natLt_1_32) main_v11
  let main_c_0 : IVec S_ 32 := constantI S_ 32 0#32
  let main_v13 : IVec S1024x4x128 32 := (fun x v => Host.reduce IntOp.addi x v reducesTo_S1024x4x64x128_S1024x4x128_d2 h_S_) main_v12 main_c_0
  let main_c_1 : IVec S_ 32 := constantI S_ 32 4#32
  let main_v14 : IVec S1024x4x128 32 := broadcastInDim S1024x4x128 ![] bcast_S_S1024x4x128 main_c_1
  let main_v15 : IVec S1024x4x128 1 := cmpi .sle main_v13 main_v14
  let main_c_2 : IVec S_ 1 := constantI S_ 1 1#1
  let main_v16 : IVec S1024 1 := (fun x v => Host.reduce IntOp.andi x v reducesTo_S1024x4x128_S1024_d1_2 h_S_) main_v15 main_c_2
  let main_v17 : IVec S1024 1 := andi main_v7 main_v16
  let main_v18 : IVec S1024x1 1 := broadcastInDim S1024x1 ![0] bcast_S1024_S1024x1_0 main_v17
  let main_v19 : IVec S1024x32 1 := broadcastInDim S1024x32 ![0, 1] bcast_S1024x1_S1024x32_0_1 main_v18
  main_v19
-- ==== Kernel.lean ====
abbrev S1024x8192 : Shape := ⟨2, ![1024, 8192]⟩
abbrev S1024x32 : Shape := ⟨2, ![1024, 32]⟩
abbrev S128x8192 : Shape := ⟨2, ![128, 8192]⟩
abbrev S4x32x1024 : Shape := ⟨3, ![4, 32, 1024]⟩
abbrev S4x8 : Shape := ⟨2, ![4, 8]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S128x32 : Shape := ⟨2, ![128, 32]⟩
abbrev S32x128 : Shape := ⟨2, ![32, 128]⟩
abbrev S1x32x128 : Shape := ⟨3, ![1, 32, 128]⟩
abbrev S_ : Shape := ⟨0, ![]⟩
abbrev S1x1 : Shape := ⟨2, ![1, 1]⟩
abbrev S1x32x1024 : Shape := ⟨3, ![1, 32, 1024]⟩
abbrev S32x1024 : Shape := ⟨2, ![32, 1024]⟩
abbrev S128x1024 : Shape := ⟨2, ![128, 1024]⟩
abbrev S1024 : Shape := ⟨1, ![1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S1024x32, .f32⟩
  | .local _ .vmem, ⟨0, _⟩ => ⟨S128x8192, .f32⟩
  | .local _ .vmem, ⟨1, _⟩ => ⟨S128x8192, .f32⟩
  | .local _ .vmem, ⟨2, _⟩ => ⟨S1024x32, .f32⟩
  | .local _ .vmem, ⟨3, _⟩ => ⟨S4x32x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_off1 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1090 : Index := Scalar.indexCast v2
  let c0_255 : Index := 0#32
  let arg0 : BitVec 32 := BitVec.ofNat 32 (i 0).val
  let c128_i32 : BitVec 32 := 128#32
  let v1089 : BitVec 32 := Scalar.muli arg0 c128_i32
  let v1091 : Index := Scalar.indexCast v1089
  ![v1090.toNat, 0, v1091.toNat]
def k0_cond1 (i : grid0.Coords) : BitVec 1 :=
  let arg0 : BitVec 32 := BitVec.ofNat 32 (i 0).val
  let c0_i32 : BitVec 32 := 0#32
  let v1095 : BitVec 1 := Scalar.cmpi .eq arg0 c0_i32
  let v1096 : BitVec 32 := Scalar.extui v1095
  let c0_i32_256 : BitVec 32 := 0#32
  let v1097 : BitVec 1 := Scalar.cmpi .ne v1096 c0_i32_256
  v1097

def k0_dev1 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_280 : BitVec 32 := 1#32
  let v1144 : BitVec 32 := Scalar.addi v2 c1_i32_280
  let c4_i32_281 : BitVec 32 := 4#32
  let v1145 : BitVec 32 := Scalar.remsi v1144 c4_i32_281
  let c1_i32_283 : BitVec 32 := 1#32
  let v1146 : BitVec 32 := Scalar.muli v1145 c1_i32_283
  let v1147 : BitVec 32 := Scalar.addi c0_i32_284 v1146
  v1147.toNat
def k0_dev2 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_285 : BitVec 32 := 2#32
  let v1148 : BitVec 32 := Scalar.addi v2 c2_i32_285
  let c4_i32_286 : BitVec 32 := 4#32
  let v1149 : BitVec 32 := Scalar.remsi v1148 c4_i32_286
  let c1_i32_288 : BitVec 32 := 1#32
  let v1150 : BitVec 32 := Scalar.muli v1149 c1_i32_288
  let v1151 : BitVec 32 := Scalar.addi c0_i32_289 v1150
  v1151.toNat
def k0_dev3 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_290 : BitVec 32 := 3#32
  let v1152 : BitVec 32 := Scalar.addi v2 c3_i32_290
  let c4_i32_291 : BitVec 32 := 4#32
  let v1153 : BitVec 32 := Scalar.remsi v1152 c4_i32_291
  let c1_i32_293 : BitVec 32 := 1#32
  let v1154 : BitVec 32 := Scalar.muli v1153 c1_i32_293
  let v1155 : BitVec 32 := Scalar.addi c0_i32_294 v1154
  v1155.toNat
def k0_off2 (i : grid0.Coords) (d0 : Dev nD) (c1_i32_257 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1098 : BitVec 32 := Scalar.addi v2 c1_i32_257
  let c4_i32_258 : BitVec 32 := 4#32
  let v1099 : BitVec 32 := Scalar.remsi v1098 c4_i32_258
  let arg0 : BitVec 32 := BitVec.ofNat 32 (i 0).val
  ![v1099.toNat, arg0.toNat]
def k0_off3 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  ![v2.toNat, arg0.toNat]
def k0_off4 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let arg0 : BitVec 32 := BitVec.ofNat 32 (i 0).val
  let c128_i32_260 : BitVec 32 := 128#32
  let v1101 : BitVec 32 := Scalar.muli arg0 c128_i32_260
  ![v2.toNat, 0, v1101.toNat]
def k0_dev4 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_257 : BitVec 32 := 1#32
  let v1098 : BitVec 32 := Scalar.addi v2 c1_i32_257
  let c4_i32_258 : BitVec 32 := 4#32
  let v1099 : BitVec 32 := Scalar.remsi v1098 c4_i32_258
  let c1_i32_261 : BitVec 32 := 1#32
  let v1102 : BitVec 32 := Scalar.muli v1099 c1_i32_261
  let v1103 : BitVec 32 := Scalar.addi c0_i32_262 v1102
  v1103.toNat
def k0_dev5 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v1112 : BitVec 32 := Scalar.addi v2 c2_i32
  let c4_i32_265 : BitVec 32 := 4#32
  let v1113 : BitVec 32 := Scalar.remsi v1112 c4_i32_265
  let c1_i32_268 : BitVec 32 := 1#32
  let v1116 : BitVec 32 := Scalar.muli v1113 c1_i32_268
  let v1117 : BitVec 32 := Scalar.addi c0_i32_269 v1116
  v1117.toNat
def k0_dev6 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v1126 : BitVec 32 := Scalar.addi v2 c3_i32
  let c4_i32_272 : BitVec 32 := 4#32
  let v1127 : BitVec 32 := Scalar.remsi v1126 c4_i32_272
  let c1_i32_275 : BitVec 32 := 1#32
  let v1130 : BitVec 32 := Scalar.muli v1127 c1_i32_275
  let v1131 : BitVec 32 := Scalar.addi c0_i32_276 v1130
  v1131.toNat
def k0_cond2 (i : grid0.Coords) : BitVec 1 :=
  let arg0 : BitVec 32 := BitVec.ofNat 32 (i 0).val
  let c7_i32 : BitVec 32 := 7#32
  let v1140 : BitVec 1 := Scalar.cmpi .eq arg0 c7_i32
  let v1141 : BitVec 32 := Scalar.extui v1140
  let c0_i32_279 : BitVec 32 := 0#32
  let v1142 : BitVec 1 := Scalar.cmpi .ne v1141 c0_i32_279
  v1142

def k0_off5 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_282 : BitVec 32 := 0#32
  ![v1144.toNat, 0]
def k0_off6 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_286 : BitVec 32 := 0#32
  let c0_i32_287 : BitVec 32 := 0#32
  ![v1144.toNat, 0, 0]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_288 : BitVec 32 := 0#32
  let c0_i32_289 : BitVec 32 := 0#32
  ![v2.toNat, 0, 0]
def k0_off8 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c1_i32_290 : BitVec 32 := 1#32
  ![v1144.toNat, 1]
def k0_off9 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_294 : BitVec 32 := 0#32
  let c128_i32_295 : BitVec 32 := 128#32
  ![v1144.toNat, 0, 128]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_296 : BitVec 32 := 0#32
  let c128_i32_297 : BitVec 32 := 128#32
  ![v2.toNat, 0, 128]
def k0_off11 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c2_i32_298 : BitVec 32 := 2#32
  ![v1144.toNat, 2]
def k0_off12 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_302 : BitVec 32 := 0#32
  let c256_i32 : BitVec 32 := 256#32
  ![v1144.toNat, 0, 256]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_303 : BitVec 32 := 0#32
  let c256_i32_304 : BitVec 32 := 256#32
  ![v2.toNat, 0, 256]
def k0_off14 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c3_i32_305 : BitVec 32 := 3#32
  ![v1144.toNat, 3]
def k0_off15 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_309 : BitVec 32 := 0#32
  let c384_i32 : BitVec 32 := 384#32
  ![v1144.toNat, 0, 384]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_310 : BitVec 32 := 0#32
  let c384_i32_311 : BitVec 32 := 384#32
  ![v2.toNat, 0, 384]
def k0_off17 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c4_i32_312 : BitVec 32 := 4#32
  ![v1144.toNat, 4]
def k0_off18 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_316 : BitVec 32 := 0#32
  let c512_i32 : BitVec 32 := 512#32
  ![v1144.toNat, 0, 512]
def k0_off19 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_317 : BitVec 32 := 0#32
  let c512_i32_318 : BitVec 32 := 512#32
  ![v2.toNat, 0, 512]
def k0_off20 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c5_i32 : BitVec 32 := 5#32
  ![v1144.toNat, 5]
def k0_off21 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_322 : BitVec 32 := 0#32
  let c640_i32 : BitVec 32 := 640#32
  ![v1144.toNat, 0, 640]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_323 : BitVec 32 := 0#32
  let c640_i32_324 : BitVec 32 := 640#32
  ![v2.toNat, 0, 640]
def k0_off23 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c6_i32 : BitVec 32 := 6#32
  ![v1144.toNat, 6]
def k0_off24 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_328 : BitVec 32 := 0#32
  let c768_i32 : BitVec 32 := 768#32
  ![v1144.toNat, 0, 768]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_329 : BitVec 32 := 0#32
  let c768_i32_330 : BitVec 32 := 768#32
  ![v2.toNat, 0, 768]
def k0_off26 (d0 : Dev nD) (c1_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c7_i32_331 : BitVec 32 := 7#32
  ![v1144.toNat, 7]
def k0_off27 (d0 : Dev nD) (c1_i32_280 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.addi v2 c1_i32_280
  let c4_i32_281 : BitVec 32 := 4#32
  let v1144 : BitVec 32 := Scalar.remsi v1143 c4_i32_281
  let c0_i32_335 : BitVec 32 := 0#32
  let c896_i32 : BitVec 32 := 896#32
  ![v1144.toNat, 0, 896]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_336 : BitVec 32 := 0#32
  let c896_i32_337 : BitVec 32 := 896#32
  ![v2.toNat, 0, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1024x32768 : Shape := ⟨2, ![1024, 32768]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S1024x32768, .f32⟩
  | .hbm, ⟨2, _⟩ => ⟨S1024x32768, .i32⟩
  | .hbm, ⟨3, _⟩ => ⟨S1024x32768, .f32⟩
  | .hbm, ⟨4, _⟩ => ⟨S1024x32768, .i32⟩
  | .hbm, ⟨5, _⟩ => ⟨S1024x32, .i32⟩
  | .hbm, ⟨6, _⟩ => ⟨S_, .i32⟩
  | .hbm, ⟨7, _⟩ => ⟨S1024x32, .i32⟩
  | .hbm, ⟨8, _⟩ => ⟨S1024x32, .i1⟩
  | .hbm, ⟨9, _⟩ => ⟨S_, .i32⟩
  | .hbm, ⟨10, _⟩ => ⟨S1024x32, .i32⟩
  | .hbm, ⟨11, _⟩ => ⟨S1024x32, .i32⟩
  | .hbm, ⟨12, _⟩ => ⟨S1024x32, .i32⟩
  | .hbm, ⟨13, _⟩ => ⟨S1024x32x1, .i32⟩
  | .hbm, ⟨14, _⟩ => ⟨S1, .i32⟩
  | .hbm, ⟨15, _⟩ => ⟨S_, .i32⟩
  | .hbm, ⟨16, _⟩ => ⟨S1024x32x1, .i32⟩
  | .hbm, ⟨17, _⟩ => ⟨S1024x32x1, .i1⟩
  | .hbm, ⟨18, _⟩ => ⟨S1x1x1, .i32⟩
  | .hbm, ⟨19, _⟩ => ⟨S1024x32x1, .i32⟩
  | .hbm, ⟨20, _⟩ => ⟨S1024x32x1, .i1⟩
  | .hbm, ⟨21, _⟩ => ⟨S1024x32x1, .i1⟩
  | .hbm, ⟨22, _⟩ => ⟨S_, .i1⟩
  | .hbm, ⟨23, _⟩ => ⟨S1024x32, .i1⟩
  | .hbm, ⟨24, _⟩ => ⟨S1024x32, .f32⟩
  | .hbm, ⟨25, _⟩ => ⟨S_, .f32⟩
  | .hbm, ⟨26, _⟩ => ⟨S1024x32, .f32⟩
  | .hbm, ⟨27, _⟩ => ⟨S1024x32, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Local.lean ====
/-
# The numbers one device computes, as functions

What the kernel computes between two memory operations, written with few functions: the four largest distinct numbers
of each lane (`lvl1` … `lvl4`), the 32 largest distinct numbers of a row of candidates (`ithR`), and, after the
exchange, those of the four devices' candidates (`ithC`). Each theorem says that one printed stretch returns these.
-/
module

public import proofs.«01_k».proof.Proof.Gen.KernelIdeal.Skeleton

@[expose] public section

set_option maxRecDepth 8192

noncomputable section

namespace Cert.TopK

open Cert.KernelIdeal Cert.KernelIdeal.Gen
open Idealize.ShloMosaic Idealize.SL.Sem

variable {F : FTy → Type} [FloatOps F]

/-- The filler of a place whose number is taken: minus infinity. -/
def negInf : F .f32 := Scalar.ofBits .f32 0xFF800000#32

/-- A device's block of rows, as the kernel reads it. -/
def full (x : Vec F S128x8192 .f32) : FVec F S128x8192 .f32 := shapeCast S128x8192 x shapeCasts_S128x8192_S128x8192

theorem piece_fits (k : Fin 64) : S128x8192.Slices ![0, 128 * k.val] S128x128 := by revert k; decide

/-- The 128 columns from `128 k` on. -/
def piece (x : Vec F S128x8192 .f32) (k : Fin 64) : FVec F S128x128 .f32 :=
  extractStridedSlice S128x128 ![0, 128 * k.val] (full x) (piece_fits k)

/-- The larger of every two, level by level: the maximum of `2 ^ n` vectors from the `s`-th on. -/
def tmax (n : ℕ) (f : Fin 64 → FVec F S128x128 .f32) (s : Fin 64) : FVec F S128x128 .f32 :=
  match n with
  | 0 => f s
  | n + 1 => maximumf (tmax n f s) (tmax n f (s + Fin.ofNat 64 (2 ^ n)))

/-- `v` where it is below `b`, the filler elsewhere. -/
def below (b v : FVec F S128x128 .f32) : FVec F S128x128 .f32 := select (cmpf .olt v b) v (broadcast S128x128 negInf)

def lvl1 (x : Vec F S128x8192 .f32) : FVec F S128x128 .f32 := tmax 6 (piece x) 0
def low1 (x : Vec F S128x8192 .f32) (k : Fin 64) : FVec F S128x128 .f32 := below (lvl1 x) (piece x k)
def lvl2 (x : Vec F S128x8192 .f32) : FVec F S128x128 .f32 := tmax 6 (low1 x) 0
def low2 (x : Vec F S128x8192 .f32) (k : Fin 64) : FVec F S128x128 .f32 := below (lvl2 x) (piece x k)
def lvl3 (x : Vec F S128x8192 .f32) : FVec F S128x128 .f32 := tmax 6 (low2 x) 0
def low3 (x : Vec F S128x8192 .f32) (k : Fin 64) : FVec F S128x128 .f32 := below (lvl3 x) (piece x k)
def lvl4 (x : Vec F S128x8192 .f32) : FVec F S128x128 .f32 := tmax 6 (low3 x) 0

/-- The four levels side by side: the candidates of a row. -/
def cand (x : Vec F S128x8192 .f32) : FVec F S128x512 .f32 :=
  concatenate S128x512 1 [⟨S128x128, lvl1 x⟩, ⟨S128x128, lvl2 x⟩, ⟨S128x128, lvl3 x⟩, ⟨S128x128, lvl4 x⟩]
    concatenates_S128x128_S128x128_S128x128_S128x128_S128x512_d1

/-! ### The largest distinct numbers of a row -/

def topR (y : FVec F S128x512 .f32) : FVec F S128x1 .f32 :=
  shapeCast S128x1 (multiReduction .maximumf [1] S128 y 0xFF800000#32 reduces_S128x512_S128 (.inl rfl) rfl) shapeCasts_S128_S128x1
def lowR (y : FVec F S128x512 .f32) (b : FVec F S128x1 .f32) : FVec F S128x512 .f32 :=
  select (cmpf .olt y (broadcastTo S128x512 b broadcasts_S128x1_S128x512)) y (broadcast S128x512 negInf)
def ithR (y : FVec F S128x512 .f32) (n : ℕ) : FVec F S128x1 .f32 :=
  match n with
  | 0 => topR y
  | n + 1 => topR (lowR y (ithR y n))

def tabR (y : FVec F S128x512 .f32) : FVec F S128x32 .f32 :=
  concatenate S128x32 1 [⟨S128x1, ithR y 0⟩, ⟨S128x1, ithR y 1⟩, ⟨S128x1, ithR y 2⟩, ⟨S128x1, ithR y 3⟩, ⟨S128x1, ithR y 4⟩, ⟨S128x1, ithR y 5⟩, ⟨S128x1, ithR y 6⟩, ⟨S128x1, ithR y 7⟩, ⟨S128x1, ithR y 8⟩, ⟨S128x1, ithR y 9⟩, ⟨S128x1, ithR y 10⟩, ⟨S128x1, ithR y 11⟩, ⟨S128x1, ithR y 12⟩, ⟨S128x1, ithR y 13⟩, ⟨S128x1, ithR y 14⟩, ⟨S128x1, ithR y 15⟩, ⟨S128x1, ithR y 16⟩, ⟨S128x1, ithR y 17⟩, ⟨S128x1, ithR y 18⟩, ⟨S128x1, ithR y 19⟩, ⟨S128x1, ithR y 20⟩, ⟨S128x1, ithR y 21⟩, ⟨S128x1, ithR y 22⟩, ⟨S128x1, ithR y 23⟩, ⟨S128x1, ithR y 24⟩, ⟨S128x1, ithR y 25⟩, ⟨S128x1, ithR y 26⟩, ⟨S128x1, ithR y 27⟩, ⟨S128x1, ithR y 28⟩, ⟨S128x1, ithR y 29⟩, ⟨S128x1, ithR y 30⟩, ⟨S128x1, ithR y 31⟩]
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1

/-- What a device writes into its part of the buffer: the 32 largest distinct candidates of each of its rows, a row of
the block to a column. -/
def localTop (x : Vec F S128x8192 .f32) : FVec F S1x32x128 .f32 :=
  shapeCast S1x32x128 (shapeCast S1x32x128 (transpose S32x128 [1, 0] (tabR (cand x)) transposes_S128x32_p1_0_S32x128) shapeCasts_S32x128_S1x32x128)
    shapeCasts_S1x32x128_S1x32x128

/-! ### The largest distinct numbers of the four devices' candidates -/

def topC (y : FVec F S128x1024 .f32) : FVec F S1x1024 .f32 :=
  shapeCast S1x1024 (multiReduction .maximumf [0] S1024 y 0xFF800000#32 reduces_S128x1024_S1024 (.inl rfl) rfl) shapeCasts_S1024_S1x1024
def lowC (y : FVec F S128x1024 .f32) (b : FVec F S1x1024 .f32) : FVec F S128x1024 .f32 :=
  select (cmpf .olt y (broadcastTo S128x1024 b broadcasts_S1x1024_S128x1024)) y (broadcast S128x1024 negInf)
def ithC (y : FVec F S128x1024 .f32) (n : ℕ) : FVec F S1x1024 .f32 :=
  match n with
  | 0 => topC y
  | n + 1 => topC (lowC y (ithC y n))
def tabC (y : FVec F S128x1024 .f32) : FVec F S32x1024 .f32 :=
  concatenate S32x1024 0 [⟨S1x1024, ithC y 0⟩, ⟨S1x1024, ithC y 1⟩, ⟨S1x1024, ithC y 2⟩, ⟨S1x1024, ithC y 3⟩, ⟨S1x1024, ithC y 4⟩, ⟨S1x1024, ithC y 5⟩, ⟨S1x1024, ithC y 6⟩, ⟨S1x1024, ithC y 7⟩, ⟨S1x1024, ithC y 8⟩, ⟨S1x1024, ithC y 9⟩, ⟨S1x1024, ithC y 10⟩, ⟨S1x1024, ithC y 11⟩, ⟨S1x1024, ithC y 12⟩, ⟨S1x1024, ithC y 13⟩, ⟨S1x1024, ithC y 14⟩, ⟨S1x1024, ithC y 15⟩, ⟨S1x1024, ithC y 16⟩, ⟨S1x1024, ithC y 17⟩, ⟨S1x1024, ithC y 18⟩, ⟨S1x1024, ithC y 19⟩, ⟨S1x1024, ithC y 20⟩, ⟨S1x1024, ithC y 21⟩, ⟨S1x1024, ithC y 22⟩, ⟨S1x1024, ithC y 23⟩, ⟨S1x1024, ithC y 24⟩, ⟨S1x1024, ithC y 25⟩, ⟨S1x1024, ithC y 26⟩, ⟨S1x1024, ithC y 27⟩, ⟨S1x1024, ithC y 28⟩, ⟨S1x1024, ithC y 29⟩, ⟨S1x1024, ithC y 30⟩, ⟨S1x1024, ithC y 31⟩]
    concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S32x1024_d0

def flat (u : Vec F S1x32x1024 .f32) : FVec F S32x1024 .f32 := shapeCast S32x1024 u shapeCasts_S1x32x1024_S32x1024
def pool (u0 u1 u2 u3 : Vec F S1x32x1024 .f32) : FVec F S128x1024 .f32 :=
  concatenate S128x1024 0 [⟨S32x1024, flat u0⟩, ⟨S32x1024, flat u1⟩, ⟨S32x1024, flat u2⟩, ⟨S32x1024, flat u3⟩]
    concatenates_S32x1024_S32x1024_S32x1024_S32x1024_S128x1024_d0

/-- The result: the 32 largest distinct numbers of each column of the pool, turned. -/
def merged (u0 u1 u2 u3 : Vec F S1x32x1024 .f32) : FVec F S1024x32 .f32 :=
  transpose S1024x32 [1, 0] (tabC (pool u0 u1 u2 u3)) transposes_S32x1024_p1_0_S1024x32

/-! ### The printed stretches -/

variable (i : grid0.Coords) (arg1 : Memref sig .tc .vmem S128x8192 .f32) (harg1 : arg1.IsWhole) (arg2 : Memref sig .tc .vmem S1024x32 .f32) (harg2 : arg2.IsWhole) (arg3 : Memref sig .tc .vmem S4x32x1024 .f32) (harg3 : arg3.IsWhole) (arg4 : DmaSems sig S4x8) (arg5 : DmaSems sig S4x8)

theorem part18_eq : k0_part18 (F := F) i arg1 harg1 arg2 harg2 arg3 harg3 arg4 arg5
    = .op .deviceId fun d0 => .op (.load arg1 (Rect.unit (s := S128x8192) ![0, 0] S128x8192.size inb_S128x8192_S128x8192_0_0).toLoadRect (View.loadsAt_vmem h_S128x8192))
        fun x => .ret ⟨BitVec.ofNat 32 (i 0).val, d0, Scalar.remsi (Scalar.divsi (Dev.word d0) 1#32) 4#32, (full x), (piece x 0), (piece x 1), (piece x 2), (piece x 3), (piece x 4), (piece x 5), (piece x 6), (piece x 7), (piece x 8), (piece x 9), (piece x 10), (piece x 11), (piece x 12), (piece x 13), (piece x 14), (piece x 15), (piece x 16), (piece x 17), (piece x 18), (piece x 19), (piece x 20), (piece x 21), (piece x 22), (piece x 23), (piece x 24), (piece x 25), (piece x 26), (piece x 27), (piece x 28), (piece x 29), (piece x 30), (piece x 31), (piece x 32), (piece x 33), (piece x 34), (piece x 35), (piece x 36), (piece x 37), (piece x 38), (piece x 39), (piece x 40), (piece x 41), (piece x 42), (piece x 43), (piece x 44), (piece x 45), (piece x 46), (piece x 47), (piece x 48)⟩ := rfl

theorem part19_eq (x : Vec F S128x8192 .f32) :
    k0_part19 (F := F) i arg1 harg1 arg2 harg2 arg3 harg3 arg4 arg5 (full x) (piece x 0) (piece x 1) (piece x 2) (piece x 3) (piece x 4) (piece x 5) (piece x 6) (piece x 7) (piece x 8) (piece x 9) (piece x 10) (piece x 11) (piece x 12) (piece x 13) (piece x 14) (piece x 15) (piece x 16) (piece x 17) (piece x 18) (piece x 19) (piece x 20) (piece x 21) (piece x 22) (piece x 23) (piece x 24) (piece x 25) (piece x 26) (piece x 27) (piece x 28) (piece x 29) (piece x 30) (piece x 31) (piece x 32) (piece x 33) (piece x 34) (piece x 35) (piece x 36) (piece x 37) (piece x 38) (piece x 39) (piece x 40) (piece x 41) (piece x 42) (piece x 43) (piece x 44) (piece x 45) (piece x 46) (piece x 47) (piece x 48)
      = .ret ⟨(piece x 49), (piece x 50), (piece x 51), (piece x 52), (piece x 53), (piece x 54), (piece x 55), (piece x 56), (piece x 57), (piece x 58), (piece x 59), (piece x 60), (piece x 61), (piece x 62), (piece x 63), (tmax 1 (piece x) 52), (tmax 1 (piece x) 54), (tmax 1 (piece x) 56), (tmax 1 (piece x) 58), (tmax 1 (piece x) 60), (tmax 1 (piece x) 62), (tmax 2 (piece x) 0), (tmax 2 (piece x) 4), (tmax 2 (piece x) 8), (tmax 2 (piece x) 12), (tmax 2 (piece x) 16), (tmax 2 (piece x) 20), (tmax 2 (piece x) 24), (tmax 2 (piece x) 28), (tmax 2 (piece x) 32), (tmax 2 (piece x) 36), (tmax 2 (piece x) 40), (tmax 2 (piece x) 44), (tmax 2 (piece x) 48)⟩ := rfl

theorem part20_eq (x : Vec F S128x8192 .f32) :
    k0_part20 (F := F) i arg1 harg1 arg2 harg2 arg3 harg3 arg4 arg5 (piece x 0) (piece x 1) (piece x 2) (piece x 3) (piece x 4) (piece x 5) (piece x 6) (piece x 7) (piece x 8) (piece x 9) (piece x 10) (tmax 1 (piece x) 52) (tmax 1 (piece x) 54) (tmax 1 (piece x) 56) (tmax 1 (piece x) 58) (tmax 1 (piece x) 60) (tmax 1 (piece x) 62) (tmax 2 (piece x) 0) (tmax 2 (piece x) 4) (tmax 2 (piece x) 8) (tmax 2 (piece x) 12) (tmax 2 (piece x) 16) (tmax 2 (piece x) 20) (tmax 2 (piece x) 24) (tmax 2 (piece x) 28) (tmax 2 (piece x) 32) (tmax 2 (piece x) 36) (tmax 2 (piece x) 40) (tmax 2 (piece x) 44) (tmax 2 (piece x) 48)
      = .ret ⟨(lvl1 x), (low1 x 0), (low1 x 1), (low1 x 2), (low1 x 3), (low1 x 4), (low1 x 5), (low1 x 6), (low1 x 7), (low1 x 8), (low1 x 9), (cmpf .olt (piece x 10) (lvl1 x)), negInf⟩ := rfl

theorem part21_eq (x : Vec F S128x8192 .f32) :
    k0_part21 (F := F) i arg1 harg1 arg2 harg2 arg3 harg3 arg4 arg5 (piece x 10) (piece x 11) (piece x 12) (piece x 13) (piece x 14) (piece x 15) (piece x 16) (piece x 17) (piece x 18) (piece x 19) (piece x 20) (piece x 21) (piece x 22) (piece x 23) (piece x 24) (piece x 25) (lvl1 x) (cmpf .olt (piece x 10) (lvl1 x)) negInf
      = .ret ⟨(low1 x 10), (low1 x 11), (low1 x 12), (low1 x 13), (low1 x 14), (low1 x 15), (low1 x 16), (low1 x 17), (low1 x 18), (low1 x 19), (low1 x 20), (low1 x 21), (low1 x 22), (low1 x 23), (low1 x 24), (cmpf .olt (piece x 25) (lvl1 x)), negInf⟩ := rfl

theorem part22_eq (x : Vec F S128x8192 .f32) :
    k0_part22 (F := F) i arg1 harg1 arg2 harg2 arg3 harg3 arg4 arg5 (piece x 25) (piece x 26) (piece x 27) (piece x 28) (piece x 29) (piece x 30) (piece x 31) (piece x 32) (piece x 33) (piece x 34) (piece x 35) (piece x 36) (piece x 37) (piece x 38) (piece x 39) (piece x 40) (lvl1 x) (cmpf .olt (piece x 25) (lvl1 x)) negInf
      = .ret ⟨(low1 x 25), (low1 x 26), (low1 x 27), (low1 x 28), (low1 x 29), (low1 x 30), (low1 x 31), (low1 x 32), (low1 x 33), (low1 x 34), (low1 x 35), (low1 x 36), (low1 x 37), (low1 x 38), (low1 x 39), (cmpf .olt (piece x 40) (lvl1 x)), negInf⟩ := rfl

theorem part23_eq (x : Vec F S128x8192 .f32) :
    k0_part23 (F := F) i arg1 harg1 arg2 harg2 arg3 harg3 arg4 arg5 (piece x 40) (piece x 41) (piece x 42) (piece x 43) (piece x 44) (piece x 45) (piece x 46) (piece x 47) (piece x 48) (piece x 49) (piece x 50) (piece x 51) (piece x 52) (piece x 53) (piece x 54) (piece x 55) (lvl1 x) (cmpf .olt (piece x 40) (lvl1 x)) negInf
      = .ret ⟨(low1 x 40), (low1 x 41), (low1 x 42), (low1 x 43), (low1 x 44), (low1 x 45), (low1 x 46), (low1 x 47), (low1 x 48), (low1 x 49), (low1 x 50), (low1 x 51), (low1 x 52), (low1 x 53), (low1 x 54), (cmpf .olt (piece x 55) (lvl1 x)), negInf⟩ := rfl

theorem part24_eq (x : Vec F S128x8192 .f32) :
    k0_part24 (F := F) i arg1 harg1 arg2 harg2 arg3 harg3 arg4 arg5 (piece x 55) (piece x 56) (piece x 57) (piece x 58) (piece x 59) (piece x 60) (piece x 61) (piece x 62) (piece x 63) (lvl1 x) (low1 x 0) (low1 x 1) (low1 x 2) (low1 x 3) (low1 x 4) (low1 x 5) (low1 x 6) (low1 x 7) (low1 x 8) (low1 x 9) (low1 x 10) (low1 x 11) (low1 x 12) (low1 x 13) (low1 x 14) (low1 x 15) (low1 x 16) (low1 x 17) (low1 x 18) (low1 x 19) (low1 x 20) (low1 x 21) (low1 x 22) (low1 x 23) (low1 x 24) (low1 x 25) (low1 x 26) (low1 x 27) (low1 x 28) (low1 x 29) (low1 x 30) (low1 x 31) (low1 x 32) (low1 x 33) (low1 x 34) (low1 x 35) (low1 x 36) (low1 x 37) (low1 x 38) (low1 x 39) (low1 x 40) (low1 x 41) (low1 x 42) (low1 x 43) (low1 x 44) (low1 x 45) (low1 x 46) (low1 x 47) (low1 x 48) (low1 x 49) (low1 x 50) (low1 x 51) (cmpf .olt (piece x 55) (lvl1 x)) negInf
      = .ret ⟨(low1 x 55), (low1 x 56), (low1 x 57), (low1 x 58), (low1 x 59), (low1 x 60), (low1 x 61), (low1 x 62), (low1 x 63), (tmax 1 (low1 x) 0), (tmax 1 (low1 x) 2), (tmax 1 (low1 x) 4), (tmax 1 (low1 x) 6), (tmax 1 (low1 x) 8), (tmax 1 (low1 x) 10), (tmax 1 (low1 x) 12), (tmax 1 (low1 x) 14), (tmax 1 (low1 x) 16), (tmax 1 (low1 x) 18), (tmax 1 (low1 x) 20), (tmax 1 (low1 x) 22), (tmax 1 (low1 x) 24), (tmax 1 (low1 x) 26), (tmax 1 (low1 x) 28), (tmax 1 (low1 x) 30), (tmax 1 (low1 x) 32), (tmax 1 (low1 x) 34), (tmax 1 (low1 x) 36), (tmax 1 (low1 x) 38), (tmax 1 (low1 x) 40), (tmax 1 (low1 x) 42), (tmax 1 (low1 x) 44), (tmax 1 (low1 x) 46), (tmax 1 (low1 x) 48), (tmax 1 (low1 x) 50)⟩ := rfl

theorem part25_eq (x : Vec F S128x8192 .f32) :
    k0_part25 (F := F) i arg1 harg1 arg2 harg2 arg3 harg3 arg4 arg5 (piece x 0) (piece x 1) (piece x 2) (piece x 3) (piece x 4) (piece x 5) (low1 x 52) (low1 x 53) (low1 x 54) (low1 x 55) (low1 x 56) (low1 x 57) (low1 x 58) (low1 x 59) (low1 x 60) (low1 x 61) (low1 x 62) (low1 x 63) (tmax 1 (low1 x) 0) (tmax 1 (low1 x) 2) (tmax 1 (low1 x) 4) (tmax 1 (low1 x) 6) (tmax 1 (low1 x) 8) (tmax 1 (low1 x) 10) (tmax 1 (low1 x) 12) (tmax 1 (low1 x) 14) (tmax 1 (low1 x) 16) (tmax 1 (low1 x) 18) (tmax 1 (low1 x) 20) (tmax 1 (low1 x) 22) (tmax 1 (low1 x) 24) (tmax 1 (low1 x) 26) (tmax 1 (low1 x) 28) (tmax 1 (low1 x) 30) (tmax 1 (low1 x) 32) (tmax 1 (low1 x) 34) (tmax 1 (low1 x) 36) (tmax 1 (low1 x) 38) (tmax 1 (low1 x) 40) (tmax 1 (low1 x) 42) (tmax 1 (low1 x) 44) (tmax 1 (low1 x) 46) (tmax 1 (low1 x) 48) (tmax 1 (low1 x) 50)
      = .ret ⟨(lvl2 x), (low2 x 0), (low2 x 1), (low2 x 2), (low2 x 3), (low2 x 4), (cmpf .olt (piece x 5) (lvl2 x)), (broadcast S128x128 negInf)⟩ := rfl

theorem part26_eq (x : Vec F S128x8192 .f32) :
    k0_part26 (F := F) i arg1 harg1 arg2 harg2 arg3 harg3 arg4 arg5 (piece x 5) (piece x 6) (piece x 7) (piece x 8) (piece x 9) (piece x 10) (piece x 11) (piece x 12) (piece x 13) (piece x 14) (piece x 15) (piece x 16) (piece x 17) (piece x 18) (piece x 19) (piece x 20) (lvl2 x) (cmpf .olt (piece x 5) (lvl2 x)) (broadcast S128x128 negInf)
      = .ret ⟨(low2 x 5), (low2 x 6), (low2 x 7), (low2 x 8), (low2 x 9), (low2 x 10), (low2 x 11), (low2 x 12), (low2 x 13), (low2 x 14), (low2 x 15), (low2 x 16), (low2 x 17), (low2 x 18), (low2 x 19), (cmpf .olt (piece x 20) (lvl2 x)), (broadcast S128x128 negInf)⟩ := rfl

theorem part27_eq (x : Vec F S128x8192 .f32) :
    k0_part27 (F := F) i arg1 harg1 arg2 harg2 arg3 harg3 arg4 arg5 (piece x 20) (piece x 21) (piece x 22) (piece x 23) (piece x 24) (piece x 25) (piece x 26) (piece x 27) (piece x 28) (piece x 29) (piece x 30) (piece x 31) (piece x 32) (piece x 33) (piece x 34) (piece x 35) (lvl2 x) (cmpf .olt (piece x 20) (lvl2 x)) (broadcast S128x128 negInf)
      = .ret ⟨(low2 x 20), (low2 x 21), (low2 x 22), (low2 x 23), (low2 x 24), (low2 x 25), (low2 x 26), (low2 x 27), (low2 x 28), (low2 x 29), (low2 x 30), (low2 x 31), (low2 x 32), (low2 x 33), (low2 x 34), (cmpf .olt (piece x 35) (lvl2 x)), (broadcast S128x128 negInf)⟩ := rfl

theorem part28_eq (x : Vec F S128x8192 .f32) :
    k0_part28 (F := F) i arg1 harg1 arg2 harg2 arg3 harg3 arg4 arg5 (piece x 35) (piece x 36) (piece x 37) (piece x 38) (piece x 39) (piece x 40) (piece x 41) (piece x 42) (piece x 43) (piece x 44) (piece x 45) (piece x 46) (piece x 47) (piece x 48) (piece x 49) (piece x 50) (lvl2 x) (cmpf .olt (piece x 35) (lvl2 x)) (broadcast S128x128 negInf)
      = .ret ⟨(low2 x 35), (low2 x 36), (low2 x 37), (low2 x 38), (low2 x 39), (low2 x 40), (low2 x 41), (low2 x 42), (low2 x 43), (low2 x 44), (low2 x 45), (low2 x 46), (low2 x 47), (low2 x 48), (low2 x 49), (cmpf .olt (piece x 50) (lvl2 x)), (broadcast S128x128 negInf)⟩ := rfl

theorem part29_eq (x : Vec F S128x8192 .f32) :
    k0_part29 (F := F) i arg1 harg1 arg2 harg2 arg3 harg3 arg4 arg5 (piece x 50) (piece x 51) (piece x 52) (piece x 53) (piece x 54) (piece x 55) (piece x 56) (piece x 57) (piece x 58) (piece x 59) (piece x 60) (piece x 61) (piece x 62) (piece x 63) (lvl2 x) (low2 x 0) (low2 x 1) (low2 x 2) (low2 x 3) (low2 x 4) (low2 x 5) (low2 x 6) (low2 x 7) (low2 x 8) (low2 x 9) (low2 x 10) (low2 x 11) (low2 x 12) (low2 x 13) (cmpf .olt (piece x 50) (lvl2 x)) (broadcast S128x128 negInf)
      = .ret ⟨(low2 x 50), (low2 x 51), (low2 x 52), (low2 x 53), (low2 x 54), (low2 x 55), (low2 x 56), (low2 x 57), (low2 x 58), (low2 x 59), (low2 x 60), (low2 x 61), (low2 x 62), (low2 x 63), (tmax 1 (low2 x) 0), (tmax 1 (low2 x) 2), (tmax 1 (low2 x) 4), (tmax 1 (low2 x) 6), (tmax 1 (low2 x) 8), (tmax 1 (low2 x) 10), (tmax 1 (low2 x) 12)⟩ := rfl

theorem part30_eq (x : Vec F S128x8192 .f32) :
    k0_part30 (F := F) i arg1 harg1 arg2 harg2 arg3 harg3 arg4 arg5 (piece x 0) (low2 x 14) (low2 x 15) (low2 x 16) (low2 x 17) (low2 x 18) (low2 x 19) (low2 x 20) (low2 x 21) (low2 x 22) (low2 x 23) (low2 x 24) (low2 x 25) (low2 x 26) (low2 x 27) (low2 x 28) (low2 x 29) (low2 x 30) (low2 x 31) (low2 x 32) (low2 x 33) (low2 x 34) (low2 x 35) (low2 x 36) (low2 x 37) (low2 x 38) (low2 x 39) (low2 x 40) (low2 x 41) (low2 x 42) (low2 x 43) (low2 x 44) (low2 x 45) (low2 x 46) (low2 x 47) (low2 x 48) (low2 x 49) (low2 x 50) (low2 x 51) (low2 x 52) (low2 x 53) (low2 x 54) (low2 x 55) (low2 x 56) (low2 x 57) (low2 x 58) (low2 x 59) (low2 x 60) (low2 x 61) (low2 x 62) (low2 x 63) (tmax 1 (low2 x) 0) (tmax 1 (low2 x) 2) (tmax 1 (low2 x) 4) (tmax 1 (low2 x) 6) (tmax 1 (low2 x) 8) (tmax 1 (low2 x) 10) (tmax 1 (low2 x) 12)
      = .ret ⟨(lvl3 x), (low3 x 0)⟩ := rfl

theorem part31_eq (x : Vec F S128x8192 .f32) :
    k0_part31 (F := F) i arg1 harg1 arg2 harg2 arg3 harg3 arg4 arg5 (piece x 1) (piece x 2) (piece x 3) (piece x 4) (piece x 5) (piece x 6) (piece x 7) (piece x 8) (piece x 9) (piece x 10) (piece x 11) (piece x 12) (piece x 13) (piece x 14) (piece x 15) (lvl3 x)
      = .ret ⟨(low3 x 1), (low3 x 2), (low3 x 3), (low3 x 4), (low3 x 5), (low3 x 6), (low3 x 7), (low3 x 8), (low3 x 9), (low3 x 10), (low3 x 11), (low3 x 12), (low3 x 13), (low3 x 14), (low3 x 15)⟩ := rfl

theorem part32_eq (x : Vec F S128x8192 .f32) :
    k0_part32 (F := F) i arg1 harg1 arg2 harg2 arg3 harg3 arg4 arg5 (piece x 16) (piece x 17) (piece x 18) (piece x 19) (piece x 20) (piece x 21) (piece x 22) (piece x 23) (piece x 24) (piece x 25) (piece x 26) (piece x 27) (piece x 28) (piece x 29) (piece x 30) (lvl3 x)
      = .ret ⟨(low3 x 16), (low3 x 17), (low3 x 18), (low3 x 19), (low3 x 20), (low3 x 21), (low3 x 22), (low3 x 23), (low3 x 24), (low3 x 25), (low3 x 26), (low3 x 27), (low3 x 28), (low3 x 29), (low3 x 30)⟩ := rfl

theorem part33_eq (x : Vec F S128x8192 .f32) :
    k0_part33 (F := F) i arg1 harg1 arg2 harg2 arg3 harg3 arg4 arg5 (piece x 31) (piece x 32) (piece x 33) (piece x 34) (piece x 35) (piece x 36) (piece x 37) (piece x 38) (piece x 39) (piece x 40) (piece x 41) (piece x 42) (piece x 43) (piece x 44) (piece x 45) (lvl3 x)
      = .ret ⟨(low3 x 31), (low3 x 32), (low3 x 33), (low3 x 34), (low3 x 35), (low3 x 36), (low3 x 37), (low3 x 38), (low3 x 39), (low3 x 40), (low3 x 41), (low3 x 42), (low3 x 43), (low3 x 44), (low3 x 45)⟩ := rfl

theorem part34_eq (x : Vec F S128x8192 .f32) :
    k0_part34 (F := F) i arg1 harg1 arg2 harg2 arg3 harg3 arg4 arg5 (piece x 46) (piece x 47) (piece x 48) (piece x 49) (piece x 50) (piece x 51) (piece x 52) (piece x 53) (piece x 54) (piece x 55) (piece x 56) (piece x 57) (piece x 58) (piece x 59) (piece x 60) (lvl3 x)
      = .ret ⟨(low3 x 46), (low3 x 47), (low3 x 48), (low3 x 49), (low3 x 50), (low3 x 51), (low3 x 52), (low3 x 53), (low3 x 54), (low3 x 55), (low3 x 56), (low3 x 57), (low3 x 58), (low3 x 59), (low3 x 60)⟩ := rfl

theorem part35_eq (x : Vec F S128x8192 .f32) :
    k0_part35 (F := F) i arg1 harg1 arg2 harg2 arg3 harg3 arg4 arg5 (piece x 61) (piece x 62) (piece x 63) (lvl3 x) (low3 x 0) (low3 x 1) (low3 x 2) (low3 x 3) (low3 x 4) (low3 x 5) (low3 x 6) (low3 x 7) (low3 x 8) (low3 x 9) (low3 x 10) (low3 x 11) (low3 x 12) (low3 x 13) (low3 x 14) (low3 x 15) (low3 x 16) (low3 x 17) (low3 x 18) (low3 x 19) (low3 x 20) (low3 x 21) (low3 x 22) (low3 x 23) (low3 x 24) (low3 x 25) (low3 x 26) (low3 x 27) (low3 x 28) (low3 x 29) (low3 x 30) (low3 x 31) (low3 x 32) (low3 x 33) (low3 x 34) (low3 x 35) (low3 x 36) (low3 x 37) (low3 x 38) (low3 x 39) (low3 x 40) (low3 x 41) (low3 x 42) (low3 x 43) (low3 x 44) (low3 x 45) (low3 x 46) (low3 x 47) (low3 x 48) (low3 x 49) (low3 x 50) (low3 x 51) (low3 x 52) (low3 x 53) (low3 x 54) (low3 x 55) (low3 x 56) (low3 x 57) (low3 x 58) (low3 x 59) (low3 x 60)
      = .ret ⟨(tmax 2 (low3 x) 0), (tmax 2 (low3 x) 4), (tmax 2 (low3 x) 8), (tmax 2 (low3 x) 12), (tmax 2 (low3 x) 16), (tmax 2 (low3 x) 20), (tmax 2 (low3 x) 24), (tmax 2 (low3 x) 28), (tmax 2 (low3 x) 32), (tmax 2 (low3 x) 36), (tmax 2 (low3 x) 40), (tmax 2 (low3 x) 44), (tmax 2 (low3 x) 48), (tmax 2 (low3 x) 52), (tmax 2 (low3 x) 56), (tmax 2 (low3 x) 60)⟩ := rfl

theorem part36_eq (x : Vec F S128x8192 .f32) :
    k0_part36 (F := F) i arg1 harg1 arg2 harg2 arg3 harg3 arg4 arg5 (lvl1 x) (lvl2 x) (lvl3 x) (tmax 2 (low3 x) 0) (tmax 2 (low3 x) 4) (tmax 2 (low3 x) 8) (tmax 2 (low3 x) 12) (tmax 2 (low3 x) 16) (tmax 2 (low3 x) 20) (tmax 2 (low3 x) 24) (tmax 2 (low3 x) 28) (tmax 2 (low3 x) 32) (tmax 2 (low3 x) 36) (tmax 2 (low3 x) 40) (tmax 2 (low3 x) 44) (tmax 2 (low3 x) 48) (tmax 2 (low3 x) 52) (tmax 2 (low3 x) 56) (tmax 2 (low3 x) 60)
      = .ret ⟨(cand x), (ithR (cand x) 0), (ithR (cand x) 1), (ithR (cand x) 2), (ithR (cand x) 3), (ithR (cand x) 4), (ithR (cand x) 5), (broadcastTo S128x512 (ithR (cand x) 5) broadcasts_S128x1_S128x512)⟩ := rfl

theorem part37_eq (x : Vec F S128x8192 .f32) :
    k0_part37 (F := F) i arg1 harg1 arg2 harg2 arg3 harg3 arg4 arg5 (cand x) (broadcastTo S128x512 (ithR (cand x) 5) broadcasts_S128x1_S128x512)
      = .ret ⟨(ithR (cand x) 6), (ithR (cand x) 7), (ithR (cand x) 8), (ithR (cand x) 9), (ithR (cand x) 10), (ithR (cand x) 11), (ithR (cand x) 12), (lowR (cand x) (ithR (cand x) 12))⟩ := rfl

theorem part38_eq (x : Vec F S128x8192 .f32) :
    k0_part38 (F := F) i arg1 harg1 arg2 harg2 arg3 harg3 arg4 arg5 (cand x) (lowR (cand x) (ithR (cand x) 12))
      = .ret ⟨(ithR (cand x) 13), (ithR (cand x) 14), (ithR (cand x) 15), (ithR (cand x) 16), (ithR (cand x) 17), (ithR (cand x) 18), (ithR (cand x) 19), (ithR (cand x) 20), (broadcastTo S128x512 (ithR (cand x) 20) broadcasts_S128x1_S128x512)⟩ := rfl

theorem part39_eq (x : Vec F S128x8192 .f32) :
    k0_part39 (F := F) i arg1 harg1 arg2 harg2 arg3 harg3 arg4 arg5 (cand x) (broadcastTo S128x512 (ithR (cand x) 20) broadcasts_S128x1_S128x512)
      = .ret ⟨(ithR (cand x) 21), (ithR (cand x) 22), (ithR (cand x) 23), (ithR (cand x) 24), (ithR (cand x) 25), (ithR (cand x) 26), (ithR (cand x) 27), (lowR (cand x) (ithR (cand x) 27))⟩ := rfl

theorem part14_eq (u0 u1 : Vec F S1x32x1024 .f32) :
    k0_part14 (F := F) i arg1 harg1 arg2 harg2 arg3 harg3 arg4 arg5 (flat u0) (flat u1)
      = .op (.load arg3 (Rect.unit (s := S4x32x1024) ![2, 0, 0] S1x32x1024.size inb_S4x32x1024_S1x32x1024_2_0_0).toLoadRect (View.loadsAt_vmem h_S1x32x1024)) fun u2 =>
        .op (.load arg3 (Rect.unit (s := S4x32x1024) ![3, 0, 0] S1x32x1024.size inb_S4x32x1024_S1x32x1024_3_0_0).toLoadRect (View.loadsAt_vmem h_S1x32x1024)) fun u3 =>
        .ret ⟨(pool u0 u1 u2 u3), (ithC (pool u0 u1 u2 u3) 0), (ithC (pool u0 u1 u2 u3) 1), (ithC (pool u0 u1 u2 u3) 2), (ithC (pool u0 u1 u2 u3) 3), (ithC (pool u0 u1 u2 u3) 4), (ithC (pool u0 u1 u2 u3) 5), (ithC (pool u0 u1 u2 u3) 6)⟩ := rfl

theorem part15_eq (u0 u1 u2 u3 : Vec F S1x32x1024 .f32) :
    k0_part15 (F := F) i arg1 harg1 arg2 harg2 arg3 harg3 arg4 arg5 (pool u0 u1 u2 u3) (ithC (pool u0 u1 u2 u3) 6)
      = .ret ⟨(ithC (pool u0 u1 u2 u3) 7), (ithC (pool u0 u1 u2 u3) 8), (ithC (pool u0 u1 u2 u3) 9), (ithC (pool u0 u1 u2 u3) 10), (ithC (pool u0 u1 u2 u3) 11), (ithC (pool u0 u1 u2 u3) 12), (ithC (pool u0 u1 u2 u3) 13), (cmpf .olt (pool u0 u1 u2 u3) (broadcastTo S128x1024 (ithC (pool u0 u1 u2 u3) 13) broadcasts_S1x1024_S128x1024)), (broadcast S128x1024 negInf)⟩ := rfl

theorem part16_eq (u0 u1 u2 u3 : Vec F S1x32x1024 .f32) :
    k0_part16 (F := F) i arg1 harg1 arg2 harg2 arg3 harg3 arg4 arg5 (pool u0 u1 u2 u3) (cmpf .olt (pool u0 u1 u2 u3) (broadcastTo S128x1024 (ithC (pool u0 u1 u2 u3) 13) broadcasts_S1x1024_S128x1024)) (broadcast S128x1024 negInf)
      = .ret ⟨(ithC (pool u0 u1 u2 u3) 14), (ithC (pool u0 u1 u2 u3) 15), (ithC (pool u0 u1 u2 u3) 16), (ithC (pool u0 u1 u2 u3) 17), (ithC (pool u0 u1 u2 u3) 18), (ithC (pool u0 u1 u2 u3) 19), (ithC (pool u0 u1 u2 u3) 20), (ithC (pool u0 u1 u2 u3) 21)⟩ := rfl

theorem part17_eq (u0 u1 u2 u3 : Vec F S1x32x1024 .f32) :
    k0_part17 (F := F) i arg1 harg1 arg2 harg2 arg3 harg3 arg4 arg5 (pool u0 u1 u2 u3) (ithC (pool u0 u1 u2 u3) 21)
      = .ret ⟨(ithC (pool u0 u1 u2 u3) 22), (ithC (pool u0 u1 u2 u3) 23), (ithC (pool u0 u1 u2 u3) 24), (ithC (pool u0 u1 u2 u3) 25), (ithC (pool u0 u1 u2 u3) 26), (ithC (pool u0 u1 u2 u3) 27), (ithC (pool u0 u1 u2 u3) 28), (cmpf .olt (pool u0 u1 u2 u3) (broadcastTo S128x1024 (ithC (pool u0 u1 u2 u3) 28) broadcasts_S1x1024_S128x1024)), (broadcast S128x1024 negInf)⟩ := rfl

end Cert.TopK

end
-- ==== Proof.Regions.lean ====
/-
# The exchange buffer and the semaphores, part by part

The exchange buffer of a device has one part for each device `s` and each block `j` of rows: `blk s j`. The program names
a part as a slice with one axis dropped, `regM s j`, for a transfer, and as a rectangle, `regR s j`, for a store; all
three have the same places. `final` is what every device's buffer holds when all transfers are done.
-/
module

public import proofs.«01_k».proof.Proof.Local
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Transfers
public import Idealize.ShloMosaic.Lib.Tactic

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The parts of the buffer -/

abbrev commM : Memref sig .tc .vmem S4x32x1024 .f32 := Memref.whole cc0_scratch0

theorem reg_inb (s : Fin 4) (j : Fin 8) :
    ∀ a, (![s.val, 0, 128 * j.val] : Fin 3 → ℕ) a + S1x32x128.size a ≤ S4x32x1024.size a := by
  revert s j; decide

abbrev regR (s : Fin 4) (j : Fin 8) : Rect S4x32x1024 :=
  Rect.unit (s := S4x32x1024) ![s.val, 0, 128 * j.val] S1x32x128.size (reg_inb s j)

abbrev regM (s : Fin 4) (j : Fin 8) : Memref sig .tc .vmem S32x128 .f32 :=
  (commM.slice (regR s j) (fun _ => rfl)).squeeze S32x128 squeezes_S1x32x128_S32x128

/-- The places of part `(s, j)`. -/
def blk (s : Fin 4) (j : Fin 8) : Finset S4x32x1024.Idx := (regR s j).set

theorem mem_blk (s : Fin 4) (j : Fin 8) (x : S4x32x1024.Idx) : x ∈ blk s j ↔ (x 0).val = s.val ∧ (x 2).val / 128 = j.val := by
  unfold blk
  rw [Rect.mem_set_unit]
  have h0 : (x 0).val < 4 := (x 0).isLt
  have h1 : (x 1).val < 32 := (x 1).isLt
  have h2 : (x 2).val < 1024 := (x 2).isLt
  constructor
  · intro h
    have a0 := h 0; have a2 := h 2
    simp [S1x32x128] at a0 a2
    omega
  · rintro ⟨e0, e2⟩ a
    fin_cases a <;> simp [S1x32x128] <;> omega

theorem set_access (s : Fin 4) (j : Fin 8) : ((commM.access (regR s j)) : View sig .tc _ _ _).set = blk s j := View.set_slice_whole _ _

theorem set_regM (s : Fin 4) (j : Fin 8) : (regM s j).view.set = blk s j :=
  (View.set_reshape _ _).trans (View.set_slice_whole _ _)

theorem blk_disj (a b : Fin 4 × Fin 8) (h : a ≠ b) : Disjoint (blk a.1 a.2) (blk b.1 b.2) := by
  rw [Finset.disjoint_left]
  intro x ha hb
  rw [mem_blk] at ha hb
  exact h (Prod.ext (Fin.ext (ha.1.symm.trans hb.1)) (Fin.ext (ha.2.symm.trans hb.2)))

theorem blk_cover : (Finset.univ : Finset (Fin 4 × Fin 8)).biUnion (fun b => blk b.1 b.2) = Finset.univ := by
  ext x
  simp only [Finset.mem_biUnion, Finset.mem_univ, true_and, iff_true]
  have h2 : (x 2).val < 1024 := (x 2).isLt
  exact ⟨(⟨(x 0).val, (x 0).isLt⟩, ⟨(x 2).val / 128, by omega⟩), (mem_blk _ _ _).mpr ⟨rfl, rfl⟩⟩

/-- A part named by offsets that are known to be these. -/
theorem regM_of_off {off : Fin 3 → ℕ} (s : Fin 4) (j : Fin 8) (h : off = ![s.val, 0, 128 * j.val])
    (hin : ∀ a, off a + S1x32x128.size a ≤ S4x32x1024.size a) :
    (commM.slice (Rect.unit (s := S4x32x1024) off S1x32x128.size hin) (fun _ => rfl)).squeeze S32x128 squeezes_S1x32x128_S32x128 = regM s j := by
  subst h; rfl

theorem regR_of_off {off : Fin 3 → ℕ} (s : Fin 4) (j : Fin 8) (h : off = ![s.val, 0, 128 * j.val])
    (hin : ∀ a, off a + S1x32x128.size a ≤ S4x32x1024.size a) :
    Rect.unit (s := S4x32x1024) off S1x32x128.size hin = regR s j := by
  subst h; rfl

/-! ## The semaphores -/

theorem sem_inb (s : Fin 4) (j : Fin 8) : ∀ a, (![s.val, j.val] : Fin 2 → ℕ) a + S1x1.size a ≤ S4x8.size a := by
  revert s j; decide

abbrev sendQ (p : Fin 4) (j : Fin 8) : DmaSem sig :=
  (((cc0_scratch1 : DmaSems sig S4x8).slice (Rect.unit (s := S4x8) ![p.val, j.val] S1x1.size (sem_inb p j))).squeeze S_ squeezes_S1x1_S_).sem
abbrev recvQ (s : Fin 4) (j : Fin 8) : DmaSem sig :=
  (((cc0_scratch2 : DmaSems sig S4x8).slice (Rect.unit (s := S4x8) ![s.val, j.val] S1x1.size (sem_inb s j))).squeeze S_ squeezes_S1x1_S_).sem

theorem semQ_of_off (A : DmaSems sig S4x8) {off : Fin 2 → ℕ} (s : Fin 4) (j : Fin 8) (h : off = ![s.val, j.val])
    (hin : ∀ a, off a + S1x1.size a ≤ S4x8.size a) :
    ((A.slice (Rect.unit (s := S4x8) off S1x1.size hin)).squeeze S_ squeezes_S1x1_S_).sem
      = ((A.slice (Rect.unit (s := S4x8) ![s.val, j.val] S1x1.size (sem_inb s j))).squeeze S_ squeezes_S1x1_S_).sem := by
  subst h; rfl

theorem sendQ_val (p : Fin 4) (j : Fin 8) : (sendQ p j).val = 3 + (8 * p.val + j.val) := by revert p j; decide
theorem recvQ_val (p : Fin 4) (j : Fin 8) : (recvQ p j).val = 35 + (8 * p.val + j.val) := by revert p j; decide

abbrev barS : Sem sig := (SemArray.scalar (sig.barrier 0 rfl) : Sems sig S_).sem

/-- The semaphores of the exchange: the barrier (`none`), the one that a transfer of part `j` to device `p` credits when it
has left (`(false, p, j)`), and the one that part `j` of device `s` credits when it lands (`(true, s, j)`). -/
abbrev CK : Type := Option (Bool × Fin 4 × Fin 8)

abbrev osem : Bool × Fin 4 × Fin 8 → SemLoc sig
  | (false, p, j) => .dma (sendQ p j)
  | (true, s, j) => .dma (recvQ s j)
abbrev csem : CK → SemLoc sig
  | none => .reg barS
  | some k => osem k

/-- Which semaphore of the exchange a place is. -/
def decode : SemLoc sig → Option CK
  | .reg _ => some none
  | .dma q =>
    if h : 3 ≤ q.val ∧ q.val < 35 then some (some (false, ⟨(q.val - 3) / 8, by omega⟩, ⟨(q.val - 3) % 8, by omega⟩))
    else if h : 35 ≤ q.val ∧ q.val < 67 then some (some (true, ⟨(q.val - 35) / 8, by omega⟩, ⟨(q.val - 35) % 8, by omega⟩))
    else none

theorem decode_csem (k : CK) : decode (csem k) = some k := by
  rcases k with _ | ⟨_ | _, p, j⟩
  · rfl
  · have h := sendQ_val p j
    have hp := p.isLt; have hj := j.isLt
    show decode (.dma (sendQ p j)) = _
    unfold decode
    simp only [h]
    rw [dif_pos (by omega)]
    congr 3
    refine Prod.ext (Fin.ext ?_) (Fin.ext ?_) <;> simp only <;> omega
  · have h := recvQ_val p j
    have hp := p.isLt; have hj := j.isLt
    show decode (.dma (recvQ p j)) = _
    unfold decode
    simp only [h]
    rw [dif_neg (by omega), dif_pos (by omega)]
    congr 3
    refine Prod.ext (Fin.ext ?_) (Fin.ext ?_) <;> simp only <;> omega

theorem csem_injective : Function.Injective csem := fun a b h => by
  have := (decode_csem a).symm.trans ((congrArg decode h).trans (decode_csem b))
  exact Option.some.inj this

/-! ## The contents -/

variable (m : (ℓ : Loc nD τ sig) → Buf (Elt F) ℓ) (ρ : Dev nD → PrngReg)

/-- The memory at the start: any contents, every counter at zero. -/
def s₀ : MemSt nD τ sig (Elt F) := ⟨m, fun _ => 0, ρ⟩

/-- Block `t` of device `c`'s rows. -/
def xblk (c : Dev nD) (t : Fin 8) : (cc0_stg0_0 : Ref sig .tc).ty.Contents (Elt F) :=
  (win0_0.blk (Fin.cast N_0.symm t)).view.read (Elt F) (m ((c : Thread nD τ).loc main_arg0))

def ix3 (a : Fin 1) (b : Fin 32) (c : Fin 128) : S1x32x128.Idx := fun
  | 0 => a
  | 1 => b
  | 2 => c

/-- What every exchange buffer holds when all parts have landed: in part `(s, j)` the numbers that device `s` picks from
block `j` of its rows. -/
def final : (cc0_scratch0 : Ref sig .tc).ty.Contents (Elt F) := fun (x : S4x32x1024.Idx) =>
  localTop (xblk m ⟨(x 0).val, (x 0).isLt⟩ ⟨(x 2).val / 128, by have : (x 2).val < 1024 := (x 2).isLt; omega⟩)
    (ix3 0 ⟨(x 1).val, (x 1).isLt⟩ ⟨(x 2).val % 128, Nat.mod_lt _ (by decide)⟩)

theorem ix3_eta (y : S1x32x128.Idx) (a : Fin 1) (b : Fin 32) (c : Fin 128) (hb : b.val = (y 1).val) (hc : c.val = (y 2).val) :
    ix3 a b c = y := by
  funext d
  fin_cases d
  · exact Fin.ext (by have h0 : (y 0).val < 1 := (y 0).isLt; show a.val = (y 0).val; omega)
  · exact Fin.ext hb
  · exact Fin.ext hc

theorem final_emb (s : Fin 4) (j : Fin 8) (y : S1x32x128.Idx) : final m ((regR s j).emb y) = localTop (xblk m s j) y := by
  have e (a : Fin 3) : (((regR s j).emb y) a).val = (![s.val, 0, 128 * j.val] : Fin 3 → ℕ) a + (y a).val :=
    by rw [Rect.emb_apply]; simp [Rect.unit]
  have h0 : (y 0).val < 1 := (y 0).isLt
  have h2 : (y 2).val < 128 := (y 2).isLt
  have e0 : (((regR s j).emb y) 0).val = s.val + (y 0).val := e 0
  have e1 : (((regR s j).emb y) 1).val = 0 + (y 1).val := e 1
  have e2 : (((regR s j).emb y) 2).val = 128 * j.val + (y 2).val := e 2
  unfold final
  have q1 : (⟨(((regR s j).emb y) 0).val, (((regR s j).emb y) 0).isLt⟩ : Fin 4) = s := Fin.ext (by show _ = s.val; simp only; omega)
  have q2 : ∀ h, (⟨(((regR s j).emb y) 2).val / 128, h⟩ : Fin 8) = j := fun h => Fin.ext (by show _ = j.val; simp only; omega)
  rw [q2]
  refine (congrArg _ (ix3_eta y _ _ _ (by show _ = _; simp only; omega) (by show _ = _; simp only; omega))).trans ?_
  exact congrArg (fun d => localTop (xblk m d j) y) q1

end Cert.TopK

end
-- ==== Proof.Sched.lean ====
/-
# The protocol

Every device has one barrier semaphore and, for each other device and each block of rows, one semaphore for a part that
leaves and one for a part that lands.

* Barrier of device `c`: each other device `d` adds one unit, and with it lends `c` the eight parts `(c, j)` of its own
  buffer. `c` waits for three units before its first transfer.
* Departure of part `j` towards `p`: the transfer adds the part's size when it has left, and gives back the share of `c`'s
  own part `(c, j)` that it reads.
* Landing of part `j` of `s` on `c`: the transfer adds the part's size, and hands `c` its part `(s, j)`, holding `final`.

The waits for the barrier come before the transfers, and the waits for the landings after all of them: the levels 1 and 2.
-/
module

public import proofs.«01_k».proof.Proof.Regions

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Devices -/

/-- The other devices. -/
def peers (c : Dev nD) : Finset (Dev nD) := Finset.univ.erase c

/-- The device `r` places on. -/
def nb (c : Dev nD) (r : ℕ) : Dev nD := ⟨(c.val + r) % 4, Nat.mod_lt _ (by decide)⟩

theorem mem_peers {c p : Dev nD} : p ∈ peers c ↔ p ≠ c := by
  unfold peers; rw [Finset.mem_erase]; exact ⟨fun h => h.1, fun h => ⟨h, Finset.mem_univ _⟩⟩
theorem nb1_ne (c : Dev nD) : nb c 1 ≠ c := by revert c; decide
theorem nb2_ne (c : Dev nD) : nb c 2 ≠ c := by revert c; decide
theorem nb3_ne (c : Dev nD) : nb c 3 ≠ c := by revert c; decide
theorem peers_list (c : Dev nD) : peers c = [nb c 1, nb c 2, nb c 3].toFinset := by revert c; decide
theorem peers_nodup (c : Dev nD) : [nb c 1, nb c 2, nb c 3].Nodup := by revert c; decide
theorem peers_nonempty (c : Dev nD) : (peers c).Nonempty := ⟨nb c 1, mem_peers.mpr (nb1_ne c)⟩
theorem peers_card (c : Dev nD) : (peers c).card = 3 := by revert c; decide

omit [FloatOps F] in
theorem bigSep_peers (c : Dev nD) (Φ : Dev nD → sProp 𝕄) :
    bigSep (peers c) Φ = iprop(Φ (nb c 1) ∗ Φ (nb c 2) ∗ Φ (nb c 3)) := by
  rw [bigSep_eq_bigSepL_of_eq [nb c 1, nb c 2, nb c 3] (peers_list c) (peers_nodup c)]; rfl

/-! ## Cells and payloads -/

abbrev cell (c : Dev nD) (k : CK) : GSem nD τ sig := ((c : Thread nD τ), csem k)
abbrev barC (c : Dev nD) : GSem nD τ sig := cell c none
abbrev sendC (c p : Dev nD) (j : Fin 8) : GSem nD τ sig := cell c (some (false, p, j))
abbrev recvC (c s : Dev nD) (j : Fin 8) : GSem nD τ sig := cell c (some (true, s, j))

/-- The size of a part, as a transfer counts it. -/
abbrev N : ℕ := (regM 0 0).view.dmaCredit
theorem N_pos : 0 < N := View.dmaCredit_pos _ (by decide)

/-- Part `(s, j)` of device `d`'s buffer. -/
def part (d s : Dev nD) (j : Fin 8) (q : PosShare TreeShare) (f : Buf (Elt F) ((d : Thread nD τ).loc cc0_scratch0)) : sProp 𝕄 :=
  (d : Thread nD τ).loc cc0_scratch0 ↦[blk s j]{q} f

omit [FloatOps F] in
instance part_storable (d s : Dev nD) (j : Fin 8) (q) (f) : BI.Storable (upEmb : UEmb _ 𝕄) (part (F := F) d s j q f) := by
  unfold part; infer_instance

/-- What a device `d` lends `c` at the barrier. -/
def barPay (c d : Dev nD) : sProp 𝕄 := bigSep Finset.univ fun j : Fin 8 => iprop(∃ f, part d c j fullShare f)
/-- The share of its own part that a transfer to `p` reads. -/
def qTo (c p : Dev nD) : PosShare TreeShare := Transfers.dealOf fullShare (peers c) p
def sendPay (c p : Dev nD) (j : Fin 8) : sProp 𝕄 := part c c j (qTo c p) (final m)
def recvPay (c s : Dev nD) (j : Fin 8) : sProp 𝕄 := part c s j fullShare (final m)

omit [FloatOps F] in
instance barPay_storable (c d : Dev nD) : BI.Storable (upEmb : UEmb _ 𝕄) (barPay (F := F) c d) := by unfold barPay; infer_instance
instance sendPay_storable (c d : Dev nD) (j) : BI.Storable (upEmb : UEmb _ 𝕄) (sendPay m c d j) := by unfold sendPay; infer_instance
instance recvPay_storable (c d : Dev nD) (j) : BI.Storable (upEmb : UEmb _ 𝕄) (recvPay m c d j) := by unfold recvPay; infer_instance

def dutiesOf (c : Dev nD) : Option CK → Finset (Dev nD)
  | none => ∅
  | some none => peers c
  | some (some (_, p, _)) => if p = c then ∅ else {p}
def amountOf : Option CK → ℕ
  | some none => 1
  | _ => N
def payOf (c d : Dev nD) : Option CK → sProp 𝕄
  | none => iprop(emp)
  | some none => barPay c d
  | some (some (false, p, j)) => sendPay m c p j
  | some (some (true, s, j)) => recvPay m c s j

/-- The schedule: one round. -/
def Rd : Rounds.Schedule (GSem nD τ sig) (Dev nD) 𝕄 where
  duties g r := if r = 0 ∧ g.1.2 = .tc then dutiesOf g.1.1 (decode g.2) else ∅
  unitless _ := False
  amount g _ _ := amountOf (decode g.2)
  payload g _ d := payOf m g.1.1 d (decode g.2)
  amount_pos g _ _ _ := by
    rcases decode g.2 with _ | _ | _
    · exact N_pos
    · exact Nat.one_pos
    · exact N_pos

instance Rd_storable (g : GSem nD τ sig) (r : ℕ) (d : Dev nD) : BI.Storable (upEmb : UEmb _ 𝕄) ((Rd m).payload g r d) := by
  show BI.Storable upEmb (payOf m g.1.1 d (decode g.2))
  rcases decode g.2 with _ | _ | ⟨_ | _, p, j⟩ <;> simp only [payOf] <;> infer_instance

section Tables
variable (c : Dev nD)

theorem duties_cell (k : CK) : (Rd m).duties (cell c k) 0 = dutiesOf c (some k) := by
  dsimp only [Rd]; rw [if_pos ⟨rfl, rfl⟩, decode_csem]
theorem amount_cell (k : CK) (d : Dev nD) : (Rd m).amount (cell c k) 0 d = amountOf (some k) := by
  dsimp only [Rd]; rw [decode_csem]
theorem payload_cell (k : CK) (d : Dev nD) : (Rd m).payload (cell c k) 0 d = payOf m c d (some k) := by
  dsimp only [Rd]; rw [decode_csem]
theorem duties_later (g : GSem nD τ sig) : ∀ r, 1 ≤ r → (Rd m).duties g r = ∅ :=
  fun r hr => by dsimp only [Rd]; rw [if_neg fun h => by omega]
theorem duties_self (b : Bool) (j : Fin 8) : ∀ r, 0 ≤ r → (Rd m).duties (cell c (some (b, c, j))) r = ∅ := fun r _ => by
  rcases Nat.eq_zero_or_pos r with rfl | h
  · rw [duties_cell]; exact if_pos rfl
  · exact duties_later m _ r h

theorem duties_bar : (Rd m).duties (barC c) 0 = peers c := duties_cell m c _
theorem duties_dma (b : Bool) {p : Dev nD} (hp : p ≠ c) (j : Fin 8) : (Rd m).duties (cell c (some (b, p, j))) 0 = {p} := by
  rw [duties_cell]; exact if_neg hp

theorem expect_bar : (Rd m).expect (barC c) 0 = 3 := by
  unfold Schedule.expect Schedule.amountOf
  rw [duties_bar, Finset.sum_congr rfl fun d _ => amount_cell m c none d, Finset.sum_const, peers_card]; rfl
theorem expect_dma (b : Bool) {p : Dev nD} (hp : p ≠ c) (j : Fin 8) : (Rd m).expect (cell c (some (b, p, j))) 0 = N := by
  unfold Schedule.expect Schedule.amountOf
  rw [duties_dma m c b hp, Finset.sum_singleton, amount_cell]; rfl

theorem rest_bar : bigSep ((Rd m).duties (barC c) 0 \ ∅) (fun d => (Rd m).payload (barC c) 0 d) = bigSep (peers c) fun d => barPay c d := by
  rw [Finset.sdiff_empty, duties_bar]
  exact bigSep_congr fun d _ => payload_cell m c none d
theorem rest_send {p : Dev nD} (hp : p ≠ c) (j : Fin 8) :
    bigSep ((Rd m).duties (sendC c p j) 0 \ ∅) (fun d => (Rd m).payload (sendC c p j) 0 d) = sendPay m c p j := by
  rw [Finset.sdiff_empty, duties_dma m c false hp, bigSep_singleton, payload_cell]; rfl
theorem rest_recv {s : Dev nD} (hs : s ≠ c) (j : Fin 8) :
    bigSep ((Rd m).duties (recvC c s j) 0 \ ∅) (fun d => (Rd m).payload (recvC c s j) 0 d) = recvPay m c s j := by
  rw [Finset.sdiff_empty, duties_dma m c true hs, bigSep_singleton, payload_cell]; rfl

end Tables

/-! ## What a device owes, and the levels -/

/-- The landings that the last `k` blocks of device `c` still owe, the next block last and in program order. -/
def Orest (c : Dev nD) : ℕ → CellTallies nD τ sig Unit
  | 0 => 0
  | k + 1 => Orest c k + tallyAt (recvC (nb c 3) c ⟨7 - k, by omega⟩) () N + tallyAt (recvC (nb c 2) c ⟨7 - k, by omega⟩) () N
      + tallyAt (recvC (nb c 1) c ⟨7 - k, by omega⟩) () N
/-- At the start also one unit to every other device's barrier. -/
def O₀ (c : Dev nD) : CellTallies nD τ sig Unit :=
  Orest c 8 + tallyAt (barC (nb c 3)) () 1 + tallyAt (barC (nb c 2)) () 1 + tallyAt (barC (nb c 1)) () 1

def L (g : GSem nD τ sig) : Finset Unit := if g.1.2 = .tc then {()} else ∅
def lv (g : GSem nD τ sig) (_ : Unit) : ℕ := match decode g.2 with
  | some none => 1
  | some (some (true, _, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barC c) u = 1 := by unfold lv; rw [show decode (barC c).2 = _ from decode_csem none]
theorem lv_recv (c s : Dev nD) (j : Fin 8) (u : Unit) : lv (recvC c s j) u = 2 := by unfold lv; rw [show decode (recvC c s j).2 = _ from decode_csem (some (true, s, j))]

theorem add_tally_pos {O : CellTallies nD τ sig Unit} {g' g : GSem nD τ sig} {u : Unit} {n : ℕ}
    (h : 0 < (O + tallyAt g' () n) g u) : g = g' ∨ 0 < O g u := by
  rw [Pi.add_apply, Finsupp.add_apply, tallyAt_apply] at h
  by_cases e : g = g' ∧ u = ()
  · exact .inl e.1
  · rw [if_neg e] at h; exact .inr h

theorem Orest_pos {c : Dev nD} {g : GSem nD τ sig} {u : Unit} : ∀ k, 0 < Orest c k g u → ∃ p j, g = recvC p c j
  | 0, h => absurd h (Nat.lt_irrefl 0)
  | k + 1, h => by
    rcases add_tally_pos h with h | h
    · exact ⟨_, _, h⟩
    rcases add_tally_pos h with h | h
    · exact ⟨_, _, h⟩
    rcases add_tally_pos h with h | h
    · exact ⟨_, _, h⟩
    exact Orest_pos k h

theorem O₀_pos {c : Dev nD} {g : GSem nD τ sig} {u : Unit} (h : 0 < O₀ c g u) :
    (∃ p j, g = recvC p c j) ∨ ∃ p, g = barC p := by
  rcases add_tally_pos h with h | h
  · exact .inr ⟨_, h⟩
  rcases add_tally_pos h with h | h
  · exact .inr ⟨_, h⟩
  rcases add_tally_pos h with h | h
  · exact .inr ⟨_, h⟩
  exact .inl (Orest_pos 8 h)

omit [FloatOps F] in
/-- A wait on a staging semaphore, whatever a device still owes. -/
theorem mayWait_stage (c : Dev nD) (q : DmaSem sig) (hq : decode (.dma q) = none) (O : CellTallies nD τ sig Unit)
    (hO : O = O₀ c ∨ ∃ k, O = Orest c k) : (levAts L lv : sProp 𝕄) ⊢ MayWait (c : Thread nD τ) (.dma q) () O := by
  have hpos : ∀ g u, 0 < O g u → (∃ p j, g = recvC p c j) ∨ ∃ p, g = barC p := fun g u hg => by
    rcases hO with rfl | ⟨k, rfl⟩
    · exact O₀_pos hg
    · exact .inl (Orest_pos k hg)
  refine MayOwe.of_cut (L := L) (lev := lv) 0 (fun p hp => by rw [Finset.mem_singleton.mp hp, L_tc]; exact Finset.mem_singleton_self _)
      (fun g u hg => by rcases hpos g u hg with ⟨p, j, rfl⟩ | ⟨p, rfl⟩ <;> exact Finset.mem_singleton_self _)
      (fun p hp => by rw [Finset.mem_singleton.mp hp]; unfold lv; simp only [hq]; exact le_refl _)
      (fun g u hg => by
        rcases hpos g u hg with ⟨p, j, rfl⟩ | ⟨p, rfl⟩
        · rw [lv_recv]; decide
        · rw [lv_bar]; decide)

omit [FloatOps F] in
/-- The wait for the barrier: only landings are owed. -/
theorem mayWait_bar (c : Dev nD) (k : ℕ) : (levAts L lv : sProp 𝕄) ⊢ MayWait (c : Thread nD τ) (.reg barS) () (Orest c k) :=
  MayOwe.of_cut (L := L) (lev := lv) 1 (fun p hp => by rw [Finset.mem_singleton.mp hp, L_tc]; exact Finset.mem_singleton_self _)
    (fun g u hg => by obtain ⟨p, j, rfl⟩ := Orest_pos k hg; exact Finset.mem_singleton_self _)
    (fun p hp => by rw [Finset.mem_singleton.mp hp]; exact le_of_eq (lv_bar c ()))
    (fun g u hg => by obtain ⟨p, j, rfl⟩ := Orest_pos k hg; rw [lv_recv]; decide)

end Cert.TopK

end
-- ==== Proof.Text.lean ====
/-
# The body, as a list of steps

The kernel's body at a grid point: load the block of rows, store its 32 candidates per row (`localTop`) in the device's own
part of the exchange buffer; at the first point meet the other devices; send the part to each of them; at the last point
wait for everything, merge and store the result.
-/
module

public import proofs.«01_k».proof.Proof.Local

@[expose] public section

set_option maxRecDepth 16384
set_option pp.maxSteps 300

noncomputable section

namespace Cert.TopK

open Cert.KernelIdeal Cert.KernelIdeal.Gen
open Idealize.ShloMosaic Idealize.SL.Sem

variable {F : FTy → Type} [FloatOps F]

abbrev PP (F : FTy → Type) : Type 1 := Prog (TpuEff nD τ sig (Elt F) Λ₀ .tc) PUnit

variable (i : grid0.Coords) (arg1 : Memref sig .tc .vmem S128x8192 .f32) (harg1 : arg1.IsWhole) (arg2 : Memref sig .tc .vmem S1024x32 .f32) (harg2 : arg2.IsWhole) (arg3 : Memref sig .tc .vmem S4x32x1024 .f32) (harg3 : arg3.IsWhole) (arg4 : DmaSems sig S4x8) (arg5 : DmaSems sig S4x8)

section
universe v
variable {E : Type → Type v} {α β γ δ : Type}

theorem bind_of_ret {p : Prog E α} {a : α} {k : α → Prog E β} {r : Prog E β} (h : p = .ret a) (hr : k a = r) : (p >>= k) = r := by
  rw [h]; exact hr

theorem bind_ret_unit {E : Type → Type v} (p : Prog E PUnit.{1}) : (p.bind fun _ => .ret ⟨⟩) = p := by
  induction p with
  | ret a => rfl
  | op e k ih => exact congrArg (Prog.op e) (funext ih)

theorem bind_of_load {p : Prog E α} {e : E γ} {e' : γ → E δ} {a : γ → δ → α} {k : α → Prog E β} {r : γ → δ → Prog E β}
    (h : p = .op e fun c => .op (e' c) fun d => .ret (a c d)) (hr : ∀ c d, k (a c d) = r c d) :
    (p >>= k) = .op e fun c => .op (e' c) fun d => r c d := by
  rw [h]
  show Prog.op e (fun c => Prog.op (e' c) fun d => k (a c d)) = _
  simp only [hr]

theorem bind_of_ops {p : Prog E α} {e : E γ} {e' : E δ} {q : Prog E α} {k : α → Prog E β} {r : Prog E β}
    (h : p = .op e fun _ => .op e' fun _ => q) (hr : q.bind k = r) : (p >>= k) = .op e fun _ => .op e' fun _ => r := by
  rw [h]
  show Prog.op e (fun c => Prog.op e' fun d => q.bind k) = _
  simp only [hr]

end

/-- The meeting of the devices, at the first point. -/
def meet (d0 : Dev nD) : PP F :=
  if h : k0_cond1 i = 1#1 then do
    semSignalWord (⟨k0_dev1 d0, k0_dev1_lt i d0 h⟩ : Dev nD) (SemArray.scalar (sig.barrier 0 rfl) : Sems sig S_).sem 1#32
    semSignalWord (⟨k0_dev2 d0, k0_dev2_lt i d0 h⟩ : Dev nD) (SemArray.scalar (sig.barrier 0 rfl) : Sems sig S_).sem 1#32
    semSignalWord (⟨k0_dev3 d0, k0_dev3_lt i d0 h⟩ : Dev nD) (SemArray.scalar (sig.barrier 0 rfl) : Sems sig S_).sem 1#32
    semWaitWord (SemArray.scalar (sig.barrier 0 rfl) : Sems sig S_).sem 3#32
    pure ⟨⟩
  else pure ⟨⟩

theorem part40_eq (d0 : Dev nD) (a v2 : BitVec 32) (x : Vec F S128x8192 .f32) :
    k0_part40 (F := F) i arg1 harg1 arg2 harg2 arg3 harg3 arg4 arg5 a d0 v2 (cand x) (ithR (cand x) 0) (ithR (cand x) 1) (ithR (cand x) 2) (ithR (cand x) 3) (ithR (cand x) 4) (ithR (cand x) 5) (ithR (cand x) 6) (ithR (cand x) 7) (ithR (cand x) 8) (ithR (cand x) 9) (ithR (cand x) 10) (ithR (cand x) 11) (ithR (cand x) 12) (ithR (cand x) 13) (ithR (cand x) 14) (ithR (cand x) 15) (ithR (cand x) 16) (ithR (cand x) 17) (ithR (cand x) 18) (ithR (cand x) 19) (ithR (cand x) 20) (ithR (cand x) 21) (ithR (cand x) 22) (ithR (cand x) 23) (ithR (cand x) 24) (ithR (cand x) 25) (ithR (cand x) 26) (ithR (cand x) 27) (lowR (cand x) (ithR (cand x) 27))
      = .op (.load arg3 (Rect.unit (s := S4x32x1024) (k0_off1 i d0) S1x32x128.size (k0_off1_inb i d0)).toLoadRect (View.loadsAt_vmem h_S1x32x128)) fun _ =>
        .op (.store arg3 (Rect.unit (s := S4x32x1024) (k0_off1 i d0) S1x32x128.size (k0_off1_inb i d0)) (localTop x) Finset.univ (View.stores_vmem_bits_univ h_S1x32x128 rfl) (.inl rfl)) fun _ =>
        (meet i d0).bind fun _ => .ret ⟨⟩ := by
  rw [k0_part40_eq_skeleton]; unfold k0_part40_skel
  rw [show k0_pay407 (F := F) (cand x) (ithR (cand x) 0) (ithR (cand x) 1) (ithR (cand x) 2) (ithR (cand x) 3) (ithR (cand x) 4) (ithR (cand x) 5) (ithR (cand x) 6) (ithR (cand x) 7) (ithR (cand x) 8) (ithR (cand x) 9) (ithR (cand x) 10) (ithR (cand x) 11) (ithR (cand x) 12) (ithR (cand x) 13) (ithR (cand x) 14) (ithR (cand x) 15) (ithR (cand x) 16) (ithR (cand x) 17) (ithR (cand x) 18) (ithR (cand x) 19) (ithR (cand x) 20) (ithR (cand x) 21) (ithR (cand x) 22) (ithR (cand x) 23) (ithR (cand x) 24) (ithR (cand x) 25) (ithR (cand x) 26) (ithR (cand x) 27) (lowR (cand x) (ithR (cand x) 27)) = localTop x from rfl]
  refine congrArg (Prog.op _) (funext fun _ => congrArg (Prog.op _) (funext fun _ => ?_))
  unfold meet
  by_cases h : k0_cond1 i = 1#1
  · simp only [dif_pos h]; rfl
  · simp only [dif_neg h]; rfl

set_option maxHeartbeats 4000000 in
theorem body_eq : cc0__fused_body (F := F) i arg1 harg1 arg2 harg2 arg3 harg3 arg4 arg5
    = .op .deviceId fun d0 => .op (.load arg1 (Rect.unit (s := S128x8192) ![0, 0] S128x8192.size inb_S128x8192_S128x8192_0_0).toLoadRect (View.loadsAt_vmem h_S128x8192)) fun x =>
        .op (.load arg3 (Rect.unit (s := S4x32x1024) (k0_off1 i d0) S1x32x128.size (k0_off1_inb i d0)).toLoadRect (View.loadsAt_vmem h_S1x32x128)) fun _ =>
        .op (.store arg3 (Rect.unit (s := S4x32x1024) (k0_off1 i d0) S1x32x128.size (k0_off1_inb i d0)) (localTop x) Finset.univ (View.stores_vmem_bits_univ h_S1x32x128 rfl) (.inl rfl)) fun _ =>
        (meet i d0).bind fun _ => (k0_part41 i arg1 harg1 arg2 harg2 arg3 harg3 arg4 arg5 (BitVec.ofNat 32 (i 0).val) d0 (Scalar.remsi (Scalar.divsi (Dev.word d0) 1#32) 4#32)).bind fun _ => .ret ⟨⟩ := by
  rw [cc0__fused_body_eq_skeleton]; unfold cc0__fused_body_skel
  refine bind_of_load (part18_eq i arg1 harg1 arg2 harg2 arg3 harg3 arg4 arg5) fun d0 x => ?_
  refine bind_of_ret (part19_eq i arg1 harg1 arg2 harg2 arg3 harg3 arg4 arg5 x) ?_
  refine bind_of_ret (part20_eq i arg1 harg1 arg2 harg2 arg3 harg3 arg4 arg5 x) ?_
  refine bind_of_ret (part21_eq i arg1 harg1 arg2 harg2 arg3 harg3 arg4 arg5 x) ?_
  refine bind_of_ret (part22_eq i arg1 harg1 arg2 harg2 arg3 harg3 arg4 arg5 x) ?_
  refine bind_of_ret (part23_eq i arg1 harg1 arg2 harg2 arg3 harg3 arg4 arg5 x) ?_
  refine bind_of_ret (part24_eq i arg1 harg1 arg2 harg2 arg3 harg3 arg4 arg5 x) ?_
  refine bind_of_ret (part25_eq i arg1 harg1 arg2 harg2 arg3 harg3 arg4 arg5 x) ?_
  refine bind_of_ret (part26_eq i arg1 harg1 arg2 harg2 arg3 harg3 arg4 arg5 x) ?_
  refine bind_of_ret (part27_eq i arg1 harg1 arg2 harg2 arg3 harg3 arg4 arg5 x) ?_
  refine bind_of_ret (part28_eq i arg1 harg1 arg2 harg2 arg3 harg3 arg4 arg5 x) ?_
  refine bind_of_ret (part29_eq i arg1 harg1 arg2 harg2 arg3 harg3 arg4 arg5 x) ?_
  refine bind_of_ret (part30_eq i arg1 harg1 arg2 harg2 arg3 harg3 arg4 arg5 x) ?_
  refine bind_of_ret (part31_eq i arg1 harg1 arg2 harg2 arg3 harg3 arg4 arg5 x) ?_
  refine bind_of_ret (part32_eq i arg1 harg1 arg2 harg2 arg3 harg3 arg4 arg5 x) ?_
  refine bind_of_ret (part33_eq i arg1 harg1 arg2 harg2 arg3 harg3 arg4 arg5 x) ?_
  refine bind_of_ret (part34_eq i arg1 harg1 arg2 harg2 arg3 harg3 arg4 arg5 x) ?_
  refine bind_of_ret (part35_eq i arg1 harg1 arg2 harg2 arg3 harg3 arg4 arg5 x) ?_
  refine bind_of_ret (part36_eq i arg1 harg1 arg2 harg2 arg3 harg3 arg4 arg5 x) ?_
  refine bind_of_ret (part37_eq i arg1 harg1 arg2 harg2 arg3 harg3 arg4 arg5 x) ?_
  refine bind_of_ret (part38_eq i arg1 harg1 arg2 harg2 arg3 harg3 arg4 arg5 x) ?_
  refine bind_of_ret (part39_eq i arg1 harg1 arg2 harg2 arg3 harg3 arg4 arg5 x) ?_
  exact bind_of_ops (part40_eq i arg1 harg1 arg2 harg2 arg3 harg3 arg4 arg5 d0 _ _ x) (Prog.bind_assoc _ _ _)

/-- The merge of the four devices' candidates, from the first two on. -/
def mergeP (v1492 v1494 : FVec F S32x1024 .f32) : PP F := do
  let ⟨v1499, v1501, v1507, v1513, v1519, v1525, v1531, v1537⟩ : Σ' (v1499 : FVec F S128x1024 .f32) (v1501 : FVec F S1x1024 .f32) (v1507 : FVec F S1x1024 .f32) (v1513 : FVec F S1x1024 .f32) (v1519 : FVec F S1x1024 .f32) (v1525 : FVec F S1x1024 .f32) (v1531 : FVec F S1x1024 .f32), FVec F S1x1024 .f32 ← k0_part14 i arg1 harg1 arg2 harg2 arg3 harg3 arg4 arg5 v1492 v1494
  let ⟨v1543, v1549, v1555, v1561, v1567, v1573, v1579, v1581, v1582⟩ : Σ' (v1543 : FVec F S1x1024 .f32) (v1549 : FVec F S1x1024 .f32) (v1555 : FVec F S1x1024 .f32) (v1561 : FVec F S1x1024 .f32) (v1567 : FVec F S1x1024 .f32) (v1573 : FVec F S1x1024 .f32) (v1579 : FVec F S1x1024 .f32) (v1581 : IVec S128x1024 1), FVec F S128x1024 .f32 ← k0_part15 i arg1 harg1 arg2 harg2 arg3 harg3 arg4 arg5 v1499 v1537
  let ⟨v1585, v1591, v1597, v1603, v1609, v1615, v1621, v1627⟩ : Σ' (v1585 : FVec F S1x1024 .f32) (v1591 : FVec F S1x1024 .f32) (v1597 : FVec F S1x1024 .f32) (v1603 : FVec F S1x1024 .f32) (v1609 : FVec F S1x1024 .f32) (v1615 : FVec F S1x1024 .f32) (v1621 : FVec F S1x1024 .f32), FVec F S1x1024 .f32 ← k0_part16 i arg1 harg1 arg2 harg2 arg3 harg3 arg4 arg5 v1499 v1581 v1582
  let ⟨v1633, v1639, v1645, v1651, v1657, v1663, v1669, v1671, v1672⟩ : Σ' (v1633 : FVec F S1x1024 .f32) (v1639 : FVec F S1x1024 .f32) (v1645 : FVec F S1x1024 .f32) (v1651 : FVec F S1x1024 .f32) (v1657 : FVec F S1x1024 .f32) (v1663 : FVec F S1x1024 .f32) (v1669 : FVec F S1x1024 .f32) (v1671 : IVec S128x1024 1), FVec F S128x1024 .f32 ← k0_part17 i arg1 harg1 arg2 harg2 arg3 harg3 arg4 arg5 v1499 v1627
  have v1673 : FVec F S128x1024 .f32 := select v1671 v1499 v1672
  have v1675 : FVec F S1x1024 .f32 := k0_pay408 v1673
  have v1677 : IVec S128x1024 1 := k0_pay409 v1499 v1675
  have v1679 : FVec F S128x1024 .f32 := k0_pay410 v1499 v1677
  have v1681 : FVec F S1x1024 .f32 := k0_pay411 v1679
  have v1683 : IVec S128x1024 1 := k0_pay412 v1499 v1681
  have v1685 : FVec F S128x1024 .f32 := k0_pay413 v1499 v1683
  have v1688 : FVec F S32x1024 .f32 := k0_pay414 v1501 v1507 v1513 v1519 v1525 v1531 v1537 v1543 v1549 v1555 v1561 v1567 v1573 v1579 v1585 v1591 v1597 v1603 v1609 v1615 v1621 v1627 v1633 v1639 v1645 v1651 v1657 v1663 v1669 v1675 v1681 v1685
  let v1690 : Vec F S1024x32 .f32 ← Prog.lift (.load arg2 (Rect.unit (s := S1024x32) ![0, 0] S1024x32.size inb_S1024x32_S1024x32_0_0).toLoadRect (View.loadsAt_vmem h_S1024x32))
  Prog.lift (.store arg2 (Rect.unit (s := S1024x32) ![0, 0] S1024x32.size inb_S1024x32_S1024x32_0_0) (k0_pay415 v1688) Finset.univ (View.stores_vmem_bits_univ h_S1024x32 rfl) (.inl rfl))
  pure ⟨⟩

/-- The wait for all transfers, and the merge. -/
def finish (d0 : Dev nD) (v2 : BitVec 32) (k0_h2 : k0_cond2 i = 1#1) : PP F := do
  let ⟨v1144, v1169, c0_i32_308⟩ : Σ' (v1144 : BitVec 32) (v1169 : BitVec 32), BitVec 32 ← k0_part1 i arg1 harg1 arg2 harg2 arg3 harg3 arg4 arg5 d0 v2 k0_h2
  k0_part2 i arg1 harg1 arg2 harg2 arg3 harg3 arg4 arg5 d0 k0_h2 v1144 v1169 c0_i32_308
  let v1210 : BitVec 32 ← k0_part3 i arg1 harg1 arg2 harg2 arg3 harg3 arg4 arg5 d0 v2 k0_h2 v1144
  k0_part4 i arg1 harg1 arg2 harg2 arg3 harg3 arg4 arg5 d0 k0_h2 v1210
  let v1276 : BitVec 32 ← k0_part5 i arg1 harg1 arg2 harg2 arg3 harg3 arg4 arg5 d0 v2 k0_h2 v1210
  k0_part6 i arg1 harg1 arg2 harg2 arg3 harg3 arg4 arg5 d0 k0_h2 v1276
  k0_part7 i arg1 harg1 arg2 harg2 arg3 harg3 arg4 arg5 d0 k0_h2 v1276
  k0_part8 i arg1 harg1 arg2 harg2 arg3 harg3 arg4 arg5 d0 v2 k0_h2
  k0_part9 i arg1 harg1 arg2 harg2 arg3 harg3 arg4 arg5 d0 v2 k0_h2
  k0_part10 i arg1 harg1 arg2 harg2 arg3 harg3 arg4 arg5 d0 k0_h2
  k0_part11 i arg1 harg1 arg2 harg2 arg3 harg3 arg4 arg5 d0 v2 k0_h2
  k0_part12 i arg1 harg1 arg2 harg2 arg3 harg3 arg4 arg5 d0 k0_h2
  let ⟨v1492, v1494⟩ : Σ' (v1492 : FVec F S32x1024 .f32), FVec F S32x1024 .f32 ← k0_part13 i arg1 harg1 arg2 harg2 arg3 harg3 arg4 arg5 d0 k0_h2
  mergeP i arg1 harg1 arg2 harg2 arg3 harg3 arg4 arg5 v1492 v1494

theorem mergeP_eq (u0 u1 : Vec F S1x32x1024 .f32) :
    mergeP (F := F) i arg1 harg1 arg2 harg2 arg3 harg3 arg4 arg5 (flat u0) (flat u1)
      = .op (.load arg3 (Rect.unit (s := S4x32x1024) ![2, 0, 0] S1x32x1024.size inb_S4x32x1024_S1x32x1024_2_0_0).toLoadRect (View.loadsAt_vmem h_S1x32x1024)) fun u2 =>
        .op (.load arg3 (Rect.unit (s := S4x32x1024) ![3, 0, 0] S1x32x1024.size inb_S4x32x1024_S1x32x1024_3_0_0).toLoadRect (View.loadsAt_vmem h_S1x32x1024)) fun u3 =>
        .op (.load arg2 (Rect.unit (s := S1024x32) ![0, 0] S1024x32.size inb_S1024x32_S1024x32_0_0).toLoadRect (View.loadsAt_vmem h_S1024x32)) fun _ =>
        .op (.store arg2 (Rect.unit (s := S1024x32) ![0, 0] S1024x32.size inb_S1024x32_S1024x32_0_0) (merged u0 u1 u2 u3) Finset.univ (View.stores_vmem_bits_univ h_S1024x32 rfl) (.inl rfl)) fun _ => .ret ⟨⟩ := by
  unfold mergeP
  refine bind_of_load (part14_eq i arg1 harg1 arg2 harg2 arg3 harg3 arg4 arg5 u0 u1) fun u2 u3 => ?_
  refine bind_of_ret (part15_eq i arg1 harg1 arg2 harg2 arg3 harg3 arg4 arg5 u0 u1 u2 u3) ?_
  refine bind_of_ret (part16_eq i arg1 harg1 arg2 harg2 arg3 harg3 arg4 arg5 u0 u1 u2 u3) ?_
  refine bind_of_ret (part17_eq i arg1 harg1 arg2 harg2 arg3 harg3 arg4 arg5 u0 u1 u2 u3) ?_
  rfl

theorem part41_eq (d0 : Dev nD) (a v2 : BitVec 32) :
    k0_part41 (F := F) i arg1 harg1 arg2 harg2 arg3 harg3 arg4 arg5 a d0 v2
      = .op (.enqueueDma ((arg3.slice (Rect.unit (s := S4x32x1024) (k0_off4 i d0) S1x32x128.size (k0_off4_inb i d0)) (fun _ => rfl)).squeeze S32x128 squeezes_S1x32x128_S32x128) (.remote (Dev.tc (⟨k0_dev4 d0, k0_dev4_lt d0⟩ : Dev nD)) ((arg3.slice (Rect.unit (s := S4x32x1024) (k0_off4 i d0) S1x32x128.size (k0_off4_inb i d0)) (fun _ => rfl)).squeeze S32x128 squeezes_S1x32x128_S32x128) (.dma ((arg4.slice (Rect.unit (s := S4x8) (k0_off2 i d0 1#32) S1x1.size (k0_off2_inb i d0 0))).squeeze S_ squeezes_S1x1_S_).sem)) (.dma ((arg5.slice (Rect.unit (s := S4x8) (k0_off3 i d0) S1x1.size (k0_off3_inb i d0))).squeeze S_ squeezes_S1x1_S_).sem) ((View.wordExact_bits rfl).reshape _ _) ((View.wordExact_bits rfl).reshape _ _) ⟨⟨rfl, Or.inl rfl⟩, trivial⟩) fun _ =>
        .op (.enqueueDma ((arg3.slice (Rect.unit (s := S4x32x1024) (k0_off4 i d0) S1x32x128.size (k0_off4_inb i d0)) (fun _ => rfl)).squeeze S32x128 squeezes_S1x32x128_S32x128) (.remote (Dev.tc (⟨k0_dev5 d0, k0_dev5_lt d0⟩ : Dev nD)) ((arg3.slice (Rect.unit (s := S4x32x1024) (k0_off4 i d0) S1x32x128.size (k0_off4_inb i d0)) (fun _ => rfl)).squeeze S32x128 squeezes_S1x32x128_S32x128) (.dma ((arg4.slice (Rect.unit (s := S4x8) (k0_off2 i d0 2#32) S1x1.size (k0_off2_inb i d0 1))).squeeze S_ squeezes_S1x1_S_).sem)) (.dma ((arg5.slice (Rect.unit (s := S4x8) (k0_off3 i d0) S1x1.size (k0_off3_inb i d0))).squeeze S_ squeezes_S1x1_S_).sem) ((View.wordExact_bits rfl).reshape _ _) ((View.wordExact_bits rfl).reshape _ _) ⟨⟨rfl, Or.inl rfl⟩, trivial⟩) fun _ =>
        .op (.enqueueDma ((arg3.slice (Rect.unit (s := S4x32x1024) (k0_off4 i d0) S1x32x128.size (k0_off4_inb i d0)) (fun _ => rfl)).squeeze S32x128 squeezes_S1x32x128_S32x128) (.remote (Dev.tc (⟨k0_dev6 d0, k0_dev6_lt d0⟩ : Dev nD)) ((arg3.slice (Rect.unit (s := S4x32x1024) (k0_off4 i d0) S1x32x128.size (k0_off4_inb i d0)) (fun _ => rfl)).squeeze S32x128 squeezes_S1x32x128_S32x128) (.dma ((arg4.slice (Rect.unit (s := S4x8) (k0_off2 i d0 3#32) S1x1.size (k0_off2_inb i d0 2))).squeeze S_ squeezes_S1x1_S_).sem)) (.dma ((arg5.slice (Rect.unit (s := S4x8) (k0_off3 i d0) S1x1.size (k0_off3_inb i d0))).squeeze S_ squeezes_S1x1_S_).sem) ((View.wordExact_bits rfl).reshape _ _) ((View.wordExact_bits rfl).reshape _ _) ⟨⟨rfl, Or.inl rfl⟩, trivial⟩) fun _ =>
        if h : k0_cond2 i = 1#1 then (finish i arg1 harg1 arg2 harg2 arg3 harg3 arg4 arg5 d0 v2 h).bind fun _ => .ret ⟨⟩ else .ret ⟨⟩ := by
  rw [k0_part41_eq_skeleton]; unfold k0_part41_skel
  refine congrArg (Prog.op _) (funext fun _ => congrArg (Prog.op _) (funext fun _ => congrArg (Prog.op _) (funext fun _ => ?_)))
  by_cases h : k0_cond2 i = 1#1
  · simp only [dif_pos h]
    rw [bind_ret_unit]
    rfl
  · simp only [dif_neg h]; rfl

end Cert.TopK

end
-- ==== Proof.Steps.lean ====
/-
# One step of the exchange at a time

The kernel's memory operations on the exchange buffer and the semaphores, each as one rule over the protocol's cells: a
signal to another device's barrier, the wait at the own barrier, a transfer of a part to another device, a wait for a part
that lands or has left.
-/
module

public import proofs.«01_k».proof.Proof.Sched
public import proofs.«01_k».proof.Proof.Text

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- `p`, run on device `c`, ends in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

def records (K : Dev nD × CK → ℕ) : sProp 𝕄 :=
  iprop((bigSep Finset.univ fun ck : Dev nD × CK => cellInv ER (Rd m) (K ck) (cell ck.1 ck.2))
    ∗ bigSep Finset.univ fun ck : Dev nD × CK => reached ER (cell ck.1 ck.2) 0)

instance records_persistent (K : Dev nD × CK → ℕ) : BI.Persistent (records m K) := by unfold records; infer_instance

theorem inv_at (K : Dev nD × CK → ℕ) (d : Dev nD) (k : CK) : records m K ⊢ cellInv ER (Rd m) (K (d, k)) (cell d k) := by
  unfold records
  exact sep_elim_left.trans (bigSep_elim (Φ := fun ck : Dev nD × CK => cellInv ER (Rd m) (K ck) (cell ck.1 ck.2)) (Finset.mem_univ (d, k)))
theorem reached_at (K : Dev nD × CK → ℕ) (d : Dev nD) (k : CK) : records m K ⊢ reached ER (cell d k) 0 := by
  unfold records
  exact sep_elim_right.trans (bigSep_elim (Φ := fun ck : Dev nD × CK => (reached ER (cell ck.1 ck.2) 0 : sProp 𝕄)) (Finset.mem_univ (d, k)))

theorem pay_bar (p d : Dev nD) : (Rd m).payload (barC p) 0 d = barPay p d := payload_cell m p none d
theorem pay_send (c p : Dev nD) (j : Fin 8) (d : Dev nD) : (Rd m).payload (sendC c p j) 0 d = part c c j (qTo c p) (final m) := payload_cell m c _ d
theorem pay_recv (c s : Dev nD) (j : Fin 8) (d : Dev nD) : (Rd m).payload (recvC c s j) 0 d = part c s j fullShare (final m) := payload_cell m c _ d
theorem amt_send (c p : Dev nD) (j : Fin 8) (d : Dev nD) : (Rd m).amount (sendC c p j) 0 d = N := amount_cell m c _ d
theorem amt_recv (c s : Dev nD) (j : Fin 8) (d : Dev nD) : (Rd m).amount (recvC c s j) 0 d = N := amount_cell m c _ d
theorem mem_send (c p : Dev nD) (hp : p ≠ c) (j : Fin 8) : p ∈ (Rd m).duties (sendC c p j) 0 := by
  rw [duties_dma m c false hp]; exact Finset.mem_singleton_self _
theorem mem_recv (c s : Dev nD) (hs : s ≠ c) (j : Fin 8) : s ∈ (Rd m).duties (recvC c s j) 0 := by
  rw [duties_dma m c true hs]; exact Finset.mem_singleton_self _

/-! ## The barrier -/

theorem signal_step (K : Dev nD × CK → ℕ) (c p : Dev nD) (hp : p ≠ c) {n : Dev nD} (hn : n = p) (O : CellTallies nD τ sig Unit)
    (W : Waits sig Unit) {α : Type} {Q : α → sProp 𝕄} {k : PUnit → Prog (TpuEff nD τ sig (Elt F) Λ₀ .tc) α} :
    iprop(records m K ∗ owes (c : Thread nD τ) (O + tallyAt (barC p) () 1) W ∗ dutyTok ER (barC p) 0 c ∗ barPay p c)
      ⊢ iprop((owes (c : Thread nD τ) O W -∗ wpc c (k ⟨⟩) Q)
          -∗ wpc c (.op (.semSignal ((n, .tc) : Thread nD τ) barS (1#32 : BitVec 32).toInt) k) Q) := by
  subst hn
  iintro ⟨#HR, HO, Ht, Hpay⟩ Hk
  iapply (Rounds.wp_signal 𝒱₀ ER (Rd m) (c : Thread nD τ) none (dst := (n : Thread nD τ)) (κ := K (n, none)) (d := c)
      (by rw [duties_bar]; exact mem_peers.mpr (Ne.symm hp)) ((amount_cell m n none c).trans (by decide)) () O rfl) $$ [HO Ht Hpay]
  · isplitr; · iapply (inv_at m K n none); iexact HR
    isplitl [HO]; · iexact HO
    isplitl [Ht]; · iexact Ht
    isplitl [Hpay]; · iapply (Entails.of_eq (pay_bar m n c).symm); iexact Hpay
    iapply (reached_at m K n none); iexact HR
  iexact Hk

theorem barrier_step (K : Dev nD × CK → ℕ) (c : Dev nD) (k' : ℕ) (W : Waits sig Unit) {α : Type} {Q : α → sProp 𝕄}
    {k : PUnit → Prog (TpuEff nD τ sig (Elt F) Λ₀ .tc) α} :
    iprop(records m K ∗ levAts L lv ∗ cred (tallyAt (barC c) () 3) ∗ owes (c : Thread nD τ) (Orest c k') W ∗ atPos ER (barC c) 0 ∅ 0)
      ⊢ iprop(((∃ W, owes (c : Thread nD τ) (Orest c k') W) ∗ atPos ER (barC c) 1 ∅ 0 ∗ (bigSep (peers c) fun d => barPay c d) -∗ wpc c (k ⟨⟩) Q)
          -∗ wpc c (.op (.semWait barS (3#32 : BitVec 32).toInt) k) Q) := by
  iintro ⟨#HR, #Hlev, Hc, HO, Hat⟩ Hk
  iapply (Rounds.wp_wait_rest_token 𝒱₀ ER (Rd m) (c : Thread nD τ) none (κ := K (c, none))
      (wpE_semWait_eq 𝒱₀ (c : Thread nD τ) none Set.univ) (Set.mem_univ _) () (O := Orest c k') (W := W) (R := 0) (m := 0) (T := ∅)
      (by rw [expect_bar]; decide)) $$ [Hc HO Hat]
  · isplitr; · iapply (inv_at m K c none); iexact HR
    isplitl [Hc]; · iexact Hc
    isplitl [HO]; · iexact HO
    isplitr; · iapply (mayWait_bar c k'); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## A transfer -/

omit [FloatOps F] in
/-- A part, held through the view that names it. -/
theorem part_view (d s : Dev nD) (j : Fin 8) (q : PosShare TreeShare) (f : Buf (Elt F) ((d : Thread nD τ).loc cc0_scratch0)) :
    part d s j q f = ((regM s j).view.loc (d : Thread nD τ) ↦[(regM s j).view.set]{q} f) := by
  unfold part
  exact congrArg (fun S => ((d : Thread nD τ).loc cc0_scratch0 ↦[S]{q} f : sProp 𝕄)) (set_regM s j).symm

/-- A part that arrives holds what the sender's part held. -/
theorem part_landed (d : Dev nD) (s : Dev nD) (j : Fin 8) (fd fs : (cc0_scratch0 : Ref sig .tc).ty.Contents (Elt F)) :
    ((regM s j).view.loc (d : Thread nD τ) ↦[(regM s j).view.set]{fullShare}
        ((regM s j).view.write (Elt F) fd ((regM s j).view.read (Elt F) fs) Finset.univ) : sProp 𝕄)
      = part d s j fullShare fs := by
  rw [part_view]
  refine pointsTo_congr fun i hi => ?_
  obtain ⟨x, -, rfl⟩ := Finset.mem_map.mp hi
  rw [View.write_emb_of_mem _ _ (Finset.mem_univ _), View.read_apply]
  rfl

theorem amt_view (s : Fin 4) (j : Fin 8) : (regM s j).view.amount (.dma (recvQ s j)) = N := by
  revert s j; decide

theorem send_step (K : Dev nD × CK → ℕ) (c p : Dev nD) (hp : p ≠ c) (j : Fin 8) {src dst : Memref sig .tc .vmem S32x128 .f32}
    {qs qr : DmaSem sig} {n : Dev nD} (hn : n = p) (hsrc : src = regM c j) (hdst : dst = regM c j) (hqs : qs = sendQ p j) (hqr : qr = recvQ c j)
    {hsc : (dst : Memref sig (Dev.tc n : Thread nD τ).2.kind .vmem S32x128 .f32).view.ref.isScScratch = false}
    {hA : src.view.WordExact} {hB : dst.view.WordExact}
    {hT : DmaTarget.Typed .vmem (.dma qr) (.remote (Dev.tc n : Thread nD τ) dst (.dma qs) hsc)}
    (fd : (cc0_scratch0 : Ref sig .tc).ty.Contents (Elt F)) (O : CellTallies nD τ sig Unit)
    (W : Waits sig Unit) {α : Type} {Q : α → sProp 𝕄} {k : PUnit → Prog (TpuEff nD τ sig (Elt F) Λ₀ .tc) α} :
    iprop(records m K ∗ part c c j (qTo c p) (final m) ∗ part p c j fullShare fd ∗ owes (c : Thread nD τ) (O + tallyAt (recvC p c j) () N) W
        ∗ dutyTok ER (sendC c p j) 0 p ∗ dutyTok ER (recvC p c j) 0 c)
      ⊢ iprop(((cred (tallyAt (sendC c p j) () N) ∗ owes (c : Thread nD τ) O W) -∗ wpc c (k ⟨⟩) Q)
          -∗ wpc c (.op (.enqueueDma src (.remote (Dev.tc n : Thread nD τ) dst (.dma qs) hsc) (.dma qr) hA hB hT) k) Q) := by
  subst hn hsrc hdst hqs hqr
  have hamt : (regM c j).view.amount (.dma (recvQ c j)) = N := amt_view c j
  have h := Rounds.wp_send_pointsTo (Q := Q) (k := k) (hsc := hsc) (hsrc := hA) (hdst := hB) (hsem := hT) (defs := defs₀ (F := F)) 𝒱₀ ER (Rd m) (c : Thread nD τ) none (κ₁ := K (c, some (false, n, j))) (κ₂ := K (n, some (true, c, j)))
    (r₁ := 0) (r₂ := 0) (d₁ := n) (d₂ := c) (q := qTo c n) (fs := final m) (fd := fd)
    (mem_send m c n hp j) (mem_recv m n c (Ne.symm hp) j)
    () () N hamt (amt_send m c n j n) (amt_recv m n c j c) O rfl (W := W)
    (Entails.of_eq ((part_view c c j _ _).symm.trans (pay_send m c n j n).symm))
    (Entails.of_eq ((part_landed n c j fd (final m)).trans (pay_recv m n c j c).symm)) (Es := Set.univ) (Γ := PendingWaitsCtx.empty)
  refine BIBase.Entails.trans ?_ h
  iintro ⟨#HR, Hs, Hd, HO, Ht1, Ht2⟩
  ihave Hs' := (Entails.of_eq (part_view c c j _ _)) $$ Hs
  ihave Hd' := (Entails.of_eq (part_view n c j _ _)) $$ Hd
  isplitr; · iapply (inv_at m K c (some (false, n, j))); iexact HR
  isplitr; · iapply (inv_at m K n (some (true, c, j))); iexact HR
  isplitl [Hs']; · iexact Hs'
  isplitl [Hd']; · iexact Hd'
  isplitl [HO]; · iexact HO
  isplitl [Ht1]; · iexact Ht1
  isplitr; · iapply (reached_at m K c (some (false, n, j))); iexact HR
  isplitl [Ht2]; · iexact Ht2
  iapply (reached_at m K n (some (true, c, j))); iexact HR

end Cert.TopK

end
-- ==== Proof.Waits.lean ====
/-
# The 48 waits

At the last point a device waits for its 24 landings and then for its 24 departures, in the order of `key`. `Waiting c n`
is what it holds after the first `n` of them.
-/
module

public import proofs.«01_k».proof.Proof.Steps

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem credit_reg (s : Fin 4) (j : Fin 8) : (regM s j).view.dmaCredit = N := by revert s j; decide

/-- The `n`-th wait: for a landing (`true`) or a departure, the other device, and the block. -/
def key (c : Dev nD) (n : ℕ) : Bool × Fin 4 × Fin 8 := (decide (n < 24), nb c (n % 24 / 8 + 1), ⟨n % 8, Nat.mod_lt _ (by decide)⟩)

theorem key_ne (c : Dev nD) (n : ℕ) (hn : n < 48) : (key c n).2.1 ≠ c := by
  have h : ∀ c : Dev nD, ∀ n < 48, nb c (n % 24 / 8 + 1) ≠ c := by decide +kernel
  exact h c n hn

omit [FloatOps F] in
theorem bigSep_ins {ι : Type} [DecidableEq ι] {s : Finset ι} {i : ι} (h : i ∉ s) (Φ : ι → sProp 𝕄) :
    bigSep (insert i s) Φ = iprop(Φ i ∗ bigSep s Φ) := bigSep_insert h

def want (c : Dev nD) (k : Bool × Fin 4 × Fin 8) : sProp 𝕄 :=
  iprop(cred (tallyAt (cell c (some k)) () N) ∗ atPos ER (cell c (some k)) 0 ∅ 0)
def got (c : Dev nD) (k : Bool × Fin 4 × Fin 8) : sProp 𝕄 :=
  iprop(semVal (cell c (some k)) 0 ∗ payOf m c c (some (some k)))

def Waiting (c : Dev nD) (n : ℕ) : sProp 𝕄 :=
  iprop((∃ W, owes (c : Thread nD τ) 0 W) ∗ bigSep (Finset.Ico n 48) (fun n => want c (key c n)) ∗ bigSep (Finset.range n) (fun n => got m c (key c n)))

theorem rest_dma (c : Dev nD) (k : Bool × Fin 4 × Fin 8) (hk : k.2.1 ≠ c) :
    bigSep ((Rd m).duties (cell c (some k)) 0 \ ∅) (fun d => (Rd m).payload (cell c (some k)) 0 d) = payOf m c c (some (some k)) := by
  obtain ⟨b, p, j⟩ := k
  rw [Finset.sdiff_empty, duties_dma m c b hk, bigSep_singleton, payload_cell]
  cases b <;> rfl

theorem wait_step (K : Dev nD × CK → ℕ) (c : Dev nD) (x : Bool × Fin 4 × Fin 8) (hk : x.2.1 ≠ c) {src dst : Memref sig .tc .vmem S32x128 .f32}
    {q : DmaSem sig} (hq : SemLoc.dma q = csem (some x)) (hd : dst.view.dmaCredit = N) {hA : src.view.WordExact} {hB : dst.view.WordExact}
    {α : Type} {Q : α → sProp 𝕄} {k : PUnit → Prog (TpuEff nD τ sig (Elt F) Λ₀ .tc) α} :
    iprop(records m K ∗ want c x ∗ ∃ W, owes (c : Thread nD τ) 0 W)
      ⊢ iprop((((∃ W, owes (c : Thread nD τ) 0 W) ∗ got m c x) -∗ wpc c (k ⟨⟩) Q)
          -∗ wpc c (.op (.waitDma2 q src dst hA hB) k) Q) := by
  unfold want got
  iintro ⟨#HR, ⟨Hc, Hat⟩, ⟨%W, HO⟩⟩ Hk
  have e : (((c : Thread nD τ), SemLoc.dma q) : GSem nD τ sig) = cell c (some x) := by rw [hq]
  iapply (Rounds.wp_wait_rest_token 𝒱₀ ER (Rd m) (c : Thread nD τ) none (κ := K (c, some x))
      (wpE_waitDma2_eq 𝒱₀ (c : Thread nD τ) none Set.univ) (Set.mem_univ _) () (O := 0) (W := W) (R := 0) (m := 0) (T := ∅)
      (by rw [Nat.zero_add, e, hd]; exact (expect_dma m c x.1 hk x.2.2).symm)) $$ [Hc HO Hat]
  · rw [e, hd]
    isplitr; · iapply (inv_at m K c (some x)); iexact HR
    isplitl [Hc]; · iexact Hc
    isplitl [HO]; · iexact HO
    isplitr; · rw [MayWait_zero]; iempintro
    iexact Hat
  rw [e]
  iintro ⟨HO, Hat, -, Hpay⟩
  ihave Hp := (Entails.of_eq (rest_dma m c x hk)) $$ Hpay
  imod (Rounds.cell_close ER (Rd m) (Set.mem_univ (K (c, some x))) (fun h => h) (R := 0 + 1) (duties_later m (cell c (some x)))) $$ [Hat] with Hz
  · isplitr; · iapply (inv_at m K c (some x)); iexact HR
    iexact Hat
  iapply Hk
  isplitl [HO]; · iexists _; iexact HO
  isplitl [Hz]; · iexact Hz
  iexact Hp

theorem wait_next (K : Dev nD × CK → ℕ) (c : Dev nD) (n : ℕ) (hn : n < 48) {src dst : Memref sig .tc .vmem S32x128 .f32}
    {q : DmaSem sig} (hq : q = if n < 24 then recvQ (key c n).2.1 (key c n).2.2 else sendQ (key c n).2.1 (key c n).2.2)
    (s : Fin 4) (j : Fin 8) (hd : dst = regM s j) {hA : src.view.WordExact} {hB : dst.view.WordExact}
    {α : Type} {Q : α → sProp 𝕄} {k : PUnit → Prog (TpuEff nD τ sig (Elt F) Λ₀ .tc) α} :
    iprop(records m K ∗ Waiting m c n)
      ⊢ iprop((Waiting m c (n + 1) -∗ wpc c (k ⟨⟩) Q) -∗ wpc c (.op (.waitDma2 q src dst hA hB) k) Q) := by
  unfold Waiting
  rw [show Finset.Ico n 48 = insert n (Finset.Ico (n + 1) 48) from (by ext x; simp only [Finset.mem_insert, Finset.mem_Ico]; omega),
    bigSep_ins (by simp), Finset.range_add_one, bigSep_ins Finset.notMem_range_self]
  iintro ⟨#HR, HO, ⟨Hw, Hws⟩, Hgs⟩ Hk
  iapply (wait_step m K c (key c n) (key_ne c n hn) (by
    rw [hq]; unfold key
    by_cases h : n < 24
    · rw [if_pos h]; simp only [h, decide_true]
    · rw [if_neg h]; simp only [h, decide_false]) (by subst hd; exact credit_reg s j)) $$ [Hw HO]
  · isplitr; · iexact HR
    isplitl [Hw]; · iexact Hw
    iexact HO
  iintro ⟨HO, Hg⟩
  iapply Hk
  isplitl [HO]; · iexact HO
  isplitl [Hws]; · iexact Hws
  isplitl [Hg]; · iexact Hg
  iexact Hgs

variable (i : grid0.Coords) (xM : Memref sig .tc .vmem S128x8192 .f32) (hx : xM.IsWhole) (oM : Memref sig .tc .vmem S1024x32 .f32) (ho : oM.IsWhole)

theorem part1_step (K : Dev nD × CK → ℕ) (c : Dev nD) (v2 : BitVec 32) (k0_h2 : k0_cond2 i = 1#1) {Q : _ → sProp 𝕄} :
    iprop(records m K ∗ Waiting m c 0)
      ⊢ iprop((∀ r, Waiting m c 3 -∗ Q r) -∗ wpc c (k0_part1 (F := F) i xM hx oM ho commM (Memref.isWhole_whole _) cc0_scratch1 cc0_scratch2 c v2 k0_h2) Q) := by
  rw [k0_part1_eq_skeleton]; unfold k0_part1_skel
  simp only [Prog.lift, Prog.bind_op, Prog.bind_ret, Prog.pure_eq_ret]
  iintro ⟨#HR, HW⟩ Hk
  iapply (wait_next m K c 0 (by decide) (semQ_of_off cc0_scratch2 (nb c 1) 0 (k0_off5_eq c 0) _) (nb c 1) 0 (regM_of_off (nb c 1) 0 (k0_off6_eq c 0) _)) $$ [HW]
  · isplitr; · iexact HR
    iexact HW
  iintro HW
  iapply (wait_next m K c 1 (by decide) (semQ_of_off cc0_scratch2 (nb c 1) 1 (k0_off8_eq c 0) _) (nb c 1) 1 (regM_of_off (nb c 1) 1 (k0_off9_eq c 0) _)) $$ [HW]
  · isplitr; · iexact HR
    iexact HW
  iintro HW
  iapply (wait_next m K c 2 (by decide) (semQ_of_off cc0_scratch2 (nb c 1) 2 (k0_off11_eq c 0) _) (nb c 1) 2 (regM_of_off (nb c 1) 2 (k0_off12_eq c 0) _)) $$ [HW]
  · isplitr; · iexact HR
    iexact HW
  iintro HW
  unfold wpc; rw [wp_ret]; imodintro
  iapply Hk; iexact HW

theorem part2_step (K : Dev nD × CK → ℕ) (c : Dev nD) (k0_h2 : k0_cond2 i = 1#1) (v1144 : BitVec 32) (v1169 : BitVec 32) (c0_i32_308 : BitVec 32) {Q : _ → sProp 𝕄} :
    iprop(records m K ∗ Waiting m c 3)
      ⊢ iprop((∀ r, Waiting m c 6 -∗ Q r) -∗ wpc c (k0_part2 (F := F) i xM hx oM ho commM (Memref.isWhole_whole _) cc0_scratch1 cc0_scratch2 c k0_h2 v1144 v1169 c0_i32_308) Q) := by
  rw [k0_part2_eq_skeleton]; unfold k0_part2_skel
  simp only [Prog.lift, Prog.bind_op, Prog.bind_ret, Prog.pure_eq_ret]
  iintro ⟨#HR, HW⟩ Hk
  iapply (wait_next m K c 3 (by decide) (semQ_of_off cc0_scratch2 (nb c 1) 3 (k0_off14_eq c 0) _) (nb c 1) 3 (regM_of_off (nb c 1) 3 (k0_off15_eq c 0) _)) $$ [HW]
  · isplitr; · iexact HR
    iexact HW
  iintro HW
  iapply (wait_next m K c 4 (by decide) (semQ_of_off cc0_scratch2 (nb c 1) 4 (k0_off17_eq c 0) _) (nb c 1) 4 (regM_of_off (nb c 1) 4 (k0_off18_eq c 0) _)) $$ [HW]
  · isplitr; · iexact HR
    iexact HW
  iintro HW
  iapply (wait_next m K c 5 (by decide) (semQ_of_off cc0_scratch2 (nb c 1) 5 (k0_off20_eq c 0) _) (nb c 1) 5 (regM_of_off (nb c 1) 5 (k0_off21_eq c 0) _)) $$ [HW]
  · isplitr; · iexact HR
    iexact HW
  iintro HW
  unfold wpc; rw [wp_ret]; imodintro
  iapply Hk; iexact HW

theorem part3_step (K : Dev nD × CK → ℕ) (c : Dev nD) (v2 : BitVec 32) (k0_h2 : k0_cond2 i = 1#1) (v1144 : BitVec 32) {Q : _ → sProp 𝕄} :
    iprop(records m K ∗ Waiting m c 6)
      ⊢ iprop((∀ r, Waiting m c 10 -∗ Q r) -∗ wpc c (k0_part3 (F := F) i xM hx oM ho commM (Memref.isWhole_whole _) cc0_scratch1 cc0_scratch2 c v2 k0_h2 v1144) Q) := by
  rw [k0_part3_eq_skeleton]; unfold k0_part3_skel
  simp only [Prog.lift, Prog.bind_op, Prog.bind_ret, Prog.pure_eq_ret]
  iintro ⟨#HR, HW⟩ Hk
  iapply (wait_next m K c 6 (by decide) (semQ_of_off cc0_scratch2 (nb c 1) 6 (k0_off23_eq c 0) _) (nb c 1) 6 (regM_of_off (nb c 1) 6 (k0_off24_eq c 0) _)) $$ [HW]
  · isplitr; · iexact HR
    iexact HW
  iintro HW
  iapply (wait_next m K c 7 (by decide) (semQ_of_off cc0_scratch2 (nb c 1) 7 (k0_off26_eq c 0) _) (nb c 1) 7 (regM_of_off (nb c 1) 7 (k0_off27_eq c 0) _)) $$ [HW]
  · isplitr; · iexact HR
    iexact HW
  iintro HW
  iapply (wait_next m K c 8 (by decide) (semQ_of_off cc0_scratch2 (nb c 2) 0 (k0_off5_eq c 1) _) (nb c 2) 0 (regM_of_off (nb c 2) 0 (k0_off6_eq c 1) _)) $$ [HW]
  · isplitr; · iexact HR
    iexact HW
  iintro HW
  iapply (wait_next m K c 9 (by decide) (semQ_of_off cc0_scratch2 (nb c 2) 1 (k0_off8_eq c 1) _) (nb c 2) 1 (regM_of_off (nb c 2) 1 (k0_off9_eq c 1) _)) $$ [HW]
  · isplitr; · iexact HR
    iexact HW
  iintro HW
  unfold wpc; rw [wp_ret]; imodintro
  iapply Hk; iexact HW

theorem part4_step (K : Dev nD × CK → ℕ) (c : Dev nD) (k0_h2 : k0_cond2 i = 1#1) (v1210 : BitVec 32) {Q : _ → sProp 𝕄} :
    iprop(records m K ∗ Waiting m c 10)
      ⊢ iprop((∀ r, Waiting m c 13 -∗ Q r) -∗ wpc c (k0_part4 (F := F) i xM hx oM ho commM (Memref.isWhole_whole _) cc0_scratch1 cc0_scratch2 c k0_h2 v1210) Q) := by
  rw [k0_part4_eq_skeleton]; unfold k0_part4_skel
  simp only [Prog.lift, Prog.bind_op, Prog.bind_ret, Prog.pure_eq_ret]
  iintro ⟨#HR, HW⟩ Hk
  iapply (wait_next m K c 10 (by decide) (semQ_of_off cc0_scratch2 (nb c 2) 2 (k0_off11_eq c 1) _) (nb c 2) 2 (regM_of_off (nb c 2) 2 (k0_off12_eq c 1) _)) $$ [HW]
  · isplitr; · iexact HR
    iexact HW
  iintro HW
  iapply (wait_next m K c 11 (by decide) (semQ_of_off cc0_scratch2 (nb c 2) 3 (k0_off14_eq c 1) _) (nb c 2) 3 (regM_of_off (nb c 2) 3 (k0_off15_eq c 1) _)) $$ [HW]
  · isplitr; · iexact HR
    iexact HW
  iintro HW
  iapply (wait_next m K c 12 (by decide) (semQ_of_off cc0_scratch2 (nb c 2) 4 (k0_off17_eq c 1) _) (nb c 2) 4 (regM_of_off (nb c 2) 4 (k0_off18_eq c 1) _)) $$ [HW]
  · isplitr; · iexact HR
    iexact HW
  iintro HW
  unfold wpc; rw [wp_ret]; imodintro
  iapply Hk; iexact HW

theorem part5_step (K : Dev nD × CK → ℕ) (c : Dev nD) (v2 : BitVec 32) (k0_h2 : k0_cond2 i = 1#1) (v1210 : BitVec 32) {Q : _ → sProp 𝕄} :
    iprop(records m K ∗ Waiting m c 13)
      ⊢ iprop((∀ r, Waiting m c 16 -∗ Q r) -∗ wpc c (k0_part5 (F := F) i xM hx oM ho commM (Memref.isWhole_whole _) cc0_scratch1 cc0_scratch2 c v2 k0_h2 v1210) Q) := by
  rw [k0_part5_eq_skeleton]; unfold k0_part5_skel
  simp only [Prog.lift, Prog.bind_op, Prog.bind_ret, Prog.pure_eq_ret]
  iintro ⟨#HR, HW⟩ Hk
  iapply (wait_next m K c 13 (by decide) (semQ_of_off cc0_scratch2 (nb c 2) 5 (k0_off20_eq c 1) _) (nb c 2) 5 (regM_of_off (nb c 2) 5 (k0_off21_eq c 1) _)) $$ [HW]
  · isplitr; · iexact HR
    iexact HW
  iintro HW
  iapply (wait_next m K c 14 (by decide) (semQ_of_off cc0_scratch2 (nb c 2) 6 (k0_off23_eq c 1) _) (nb c 2) 6 (regM_of_off (nb c 2) 6 (k0_off24_eq c 1) _)) $$ [HW]
  · isplitr; · iexact HR
    iexact HW
  iintro HW
  iapply (wait_next m K c 15 (by decide) (semQ_of_off cc0_scratch2 (nb c 2) 7 (k0_off26_eq c 1) _) (nb c 2) 7 (regM_of_off (nb c 2) 7 (k0_off27_eq c 1) _)) $$ [HW]
  · isplitr; · iexact HR
    iexact HW
  iintro HW
  unfold wpc; rw [wp_ret]; imodintro
  iapply Hk; iexact HW

theorem part6_step (K : Dev nD × CK → ℕ) (c : Dev nD) (k0_h2 : k0_cond2 i = 1#1) (v1276 : BitVec 32) {Q : _ → sProp 𝕄} :
    iprop(records m K ∗ Waiting m c 16)
      ⊢ iprop((∀ r, Waiting m c 20 -∗ Q r) -∗ wpc c (k0_part6 (F := F) i xM hx oM ho commM (Memref.isWhole_whole _) cc0_scratch1 cc0_scratch2 c k0_h2 v1276) Q) := by
  rw [k0_part6_eq_skeleton]; unfold k0_part6_skel
  simp only [Prog.lift, Prog.bind_op, Prog.bind_ret, Prog.pure_eq_ret]
  iintro ⟨#HR, HW⟩ Hk
  iapply (wait_next m K c 16 (by decide) (semQ_of_off cc0_scratch2 (nb c 3) 0 (k0_off5_eq c 2) _) (nb c 3) 0 (regM_of_off (nb c 3) 0 (k0_off6_eq c 2) _)) $$ [HW]
  · isplitr; · iexact HR
    iexact HW
  iintro HW
  iapply (wait_next m K c 17 (by decide) (semQ_of_off cc0_scratch2 (nb c 3) 1 (k0_off8_eq c 2) _) (nb c 3) 1 (regM_of_off (nb c 3) 1 (k0_off9_eq c 2) _)) $$ [HW]
  · isplitr; · iexact HR
    iexact HW
  iintro HW
  iapply (wait_next m K c 18 (by decide) (semQ_of_off cc0_scratch2 (nb c 3) 2 (k0_off11_eq c 2) _) (nb c 3) 2 (regM_of_off (nb c 3) 2 (k0_off12_eq c 2) _)) $$ [HW]
  · isplitr; · iexact HR
    iexact HW
  iintro HW
  iapply (wait_next m K c 19 (by decide) (semQ_of_off cc0_scratch2 (nb c 3) 3 (k0_off14_eq c 2) _) (nb c 3) 3 (regM_of_off (nb c 3) 3 (k0_off15_eq c 2) _)) $$ [HW]
  · isplitr; · iexact HR
    iexact HW
  iintro HW
  unfold wpc; rw [wp_ret]; imodintro
  iapply Hk; iexact HW

theorem part7_step (K : Dev nD × CK → ℕ) (c : Dev nD) (k0_h2 : k0_cond2 i = 1#1) (v1276 : BitVec 32) {Q : _ → sProp 𝕄} :
    iprop(records m K ∗ Waiting m c 20)
      ⊢ iprop((∀ r, Waiting m c 24 -∗ Q r) -∗ wpc c (k0_part7 (F := F) i xM hx oM ho commM (Memref.isWhole_whole _) cc0_scratch1 cc0_scratch2 c k0_h2 v1276) Q) := by
  rw [k0_part7_eq_skeleton]; unfold k0_part7_skel
  simp only [Prog.lift, Prog.bind_op, Prog.bind_ret, Prog.pure_eq_ret]
  iintro ⟨#HR, HW⟩ Hk
  iapply (wait_next m K c 20 (by decide) (semQ_of_off cc0_scratch2 (nb c 3) 4 (k0_off17_eq c 2) _) (nb c 3) 4 (regM_of_off (nb c 3) 4 (k0_off18_eq c 2) _)) $$ [HW]
  · isplitr; · iexact HR
    iexact HW
  iintro HW
  iapply (wait_next m K c 21 (by decide) (semQ_of_off cc0_scratch2 (nb c 3) 5 (k0_off20_eq c 2) _) (nb c 3) 5 (regM_of_off (nb c 3) 5 (k0_off21_eq c 2) _)) $$ [HW]
  · isplitr; · iexact HR
    iexact HW
  iintro HW
  iapply (wait_next m K c 22 (by decide) (semQ_of_off cc0_scratch2 (nb c 3) 6 (k0_off23_eq c 2) _) (nb c 3) 6 (regM_of_off (nb c 3) 6 (k0_off24_eq c 2) _)) $$ [HW]
  · isplitr; · iexact HR
    iexact HW
  iintro HW
  iapply (wait_next m K c 23 (by decide) (semQ_of_off cc0_scratch2 (nb c 3) 7 (k0_off26_eq c 2) _) (nb c 3) 7 (regM_of_off (nb c 3) 7 (k0_off27_eq c 2) _)) $$ [HW]
  · isplitr; · iexact HR
    iexact HW
  iintro HW
  unfold wpc; rw [wp_ret]; imodintro
  iapply Hk; iexact HW

theorem part8_step (K : Dev nD × CK → ℕ) (c : Dev nD) (v2 : BitVec 32) (k0_h2 : k0_cond2 i = 1#1) {Q : _ → sProp 𝕄} :
    iprop(records m K ∗ Waiting m c 24)
      ⊢ iprop((∀ r, Waiting m c 28 -∗ Q r) -∗ wpc c (k0_part8 (F := F) i xM hx oM ho commM (Memref.isWhole_whole _) cc0_scratch1 cc0_scratch2 c v2 k0_h2) Q) := by
  rw [k0_part8_eq_skeleton]; unfold k0_part8_skel
  simp only [Prog.lift, Prog.bind_op, Prog.bind_ret, Prog.pure_eq_ret]
  iintro ⟨#HR, HW⟩ Hk
  iapply (wait_next m K c 24 (by decide) (semQ_of_off cc0_scratch1 (nb c 1) 0 (k0_off5_eq c 0) _) c 0 (regM_of_off c 0 (k0_off7_eq c) _)) $$ [HW]
  · isplitr; · iexact HR
    iexact HW
  iintro HW
  iapply (wait_next m K c 25 (by decide) (semQ_of_off cc0_scratch1 (nb c 1) 1 (k0_off8_eq c 0) _) c 1 (regM_of_off c 1 (k0_off10_eq c) _)) $$ [HW]
  · isplitr; · iexact HR
    iexact HW
  iintro HW
  iapply (wait_next m K c 26 (by decide) (semQ_of_off cc0_scratch1 (nb c 1) 2 (k0_off11_eq c 0) _) c 2 (regM_of_off c 2 (k0_off13_eq c) _)) $$ [HW]
  · isplitr; · iexact HR
    iexact HW
  iintro HW
  iapply (wait_next m K c 27 (by decide) (semQ_of_off cc0_scratch1 (nb c 1) 3 (k0_off14_eq c 0) _) c 3 (regM_of_off c 3 (k0_off16_eq c) _)) $$ [HW]
  · isplitr; · iexact HR
    iexact HW
  iintro HW
  unfold wpc; rw [wp_ret]; imodintro
  iapply Hk; iexact HW

theorem part9_step (K : Dev nD × CK → ℕ) (c : Dev nD) (v2 : BitVec 32) (k0_h2 : k0_cond2 i = 1#1) {Q : _ → sProp 𝕄} :
    iprop(records m K ∗ Waiting m c 28)
      ⊢ iprop((∀ r, Waiting m c 32 -∗ Q r) -∗ wpc c (k0_part9 (F := F) i xM hx oM ho commM (Memref.isWhole_whole _) cc0_scratch1 cc0_scratch2 c v2 k0_h2) Q) := by
  rw [k0_part9_eq_skeleton]; unfold k0_part9_skel
  simp only [Prog.lift, Prog.bind_op, Prog.bind_ret, Prog.pure_eq_ret]
  iintro ⟨#HR, HW⟩ Hk
  iapply (wait_next m K c 28 (by decide) (semQ_of_off cc0_scratch1 (nb c 1) 4 (k0_off17_eq c 0) _) c 4 (regM_of_off c 4 (k0_off19_eq c) _)) $$ [HW]
  · isplitr; · iexact HR
    iexact HW
  iintro HW
  iapply (wait_next m K c 29 (by decide) (semQ_of_off cc0_scratch1 (nb c 1) 5 (k0_off20_eq c 0) _) c 5 (regM_of_off c 5 (k0_off22_eq c) _)) $$ [HW]
  · isplitr; · iexact HR
    iexact HW
  iintro HW
  iapply (wait_next m K c 30 (by decide) (semQ_of_off cc0_scratch1 (nb c 1) 6 (k0_off23_eq c 0) _) c 6 (regM_of_off c 6 (k0_off25_eq c) _)) $$ [HW]
  · isplitr; · iexact HR
    iexact HW
  iintro HW
  iapply (wait_next m K c 31 (by decide) (semQ_of_off cc0_scratch1 (nb c 1) 7 (k0_off26_eq c 0) _) c 7 (regM_of_off c 7 (k0_off28_eq c) _)) $$ [HW]
  · isplitr; · iexact HR
    iexact HW
  iintro HW
  unfold wpc; rw [wp_ret]; imodintro
  iapply Hk; iexact HW

theorem part10_step (K : Dev nD × CK → ℕ) (c : Dev nD) (k0_h2 : k0_cond2 i = 1#1) {Q : _ → sProp 𝕄} :
    iprop(records m K ∗ Waiting m c 32)
      ⊢ iprop((∀ r, Waiting m c 36 -∗ Q r) -∗ wpc c (k0_part10 (F := F) i xM hx oM ho commM (Memref.isWhole_whole _) cc0_scratch1 cc0_scratch2 c k0_h2) Q) := by
  rw [k0_part10_eq_skeleton]; unfold k0_part10_skel
  simp only [Prog.lift, Prog.bind_op, Prog.bind_ret, Prog.pure_eq_ret]
  iintro ⟨#HR, HW⟩ Hk
  iapply (wait_next m K c 32 (by decide) (semQ_of_off cc0_scratch1 (nb c 2) 0 (k0_off5_eq c 1) _) c 0 (regM_of_off c 0 (k0_off7_eq c) _)) $$ [HW]
  · isplitr; · iexact HR
    iexact HW
  iintro HW
  iapply (wait_next m K c 33 (by decide) (semQ_of_off cc0_scratch1 (nb c 2) 1 (k0_off8_eq c 1) _) c 1 (regM_of_off c 1 (k0_off10_eq c) _)) $$ [HW]
  · isplitr; · iexact HR
    iexact HW
  iintro HW
  iapply (wait_next m K c 34 (by decide) (semQ_of_off cc0_scratch1 (nb c 2) 2 (k0_off11_eq c 1) _) c 2 (regM_of_off c 2 (k0_off13_eq c) _)) $$ [HW]
  · isplitr; · iexact HR
    iexact HW
  iintro HW
  iapply (wait_next m K c 35 (by decide) (semQ_of_off cc0_scratch1 (nb c 2) 3 (k0_off14_eq c 1) _) c 3 (regM_of_off c 3 (k0_off16_eq c) _)) $$ [HW]
  · isplitr; · iexact HR
    iexact HW
  iintro HW
  unfold wpc; rw [wp_ret]; imodintro
  iapply Hk; iexact HW

theorem part11_step (K : Dev nD × CK → ℕ) (c : Dev nD) (v2 : BitVec 32) (k0_h2 : k0_cond2 i = 1#1) {Q : _ → sProp 𝕄} :
    iprop(records m K ∗ Waiting m c 36)
      ⊢ iprop((∀ r, Waiting m c 40 -∗ Q r) -∗ wpc c (k0_part11 (F := F) i xM hx oM ho commM (Memref.isWhole_whole _) cc0_scratch1 cc0_scratch2 c v2 k0_h2) Q) := by
  rw [k0_part11_eq_skeleton]; unfold k0_part11_skel
  simp only [Prog.lift, Prog.bind_op, Prog.bind_ret, Prog.pure_eq_ret]
  iintro ⟨#HR, HW⟩ Hk
  iapply (wait_next m K c 36 (by decide) (semQ_of_off cc0_scratch1 (nb c 2) 4 (k0_off17_eq c 1) _) c 4 (regM_of_off c 4 (k0_off19_eq c) _)) $$ [HW]
  · isplitr; · iexact HR
    iexact HW
  iintro HW
  iapply (wait_next m K c 37 (by decide) (semQ_of_off cc0_scratch1 (nb c 2) 5 (k0_off20_eq c 1) _) c 5 (regM_of_off c 5 (k0_off22_eq c) _)) $$ [HW]
  · isplitr; · iexact HR
    iexact HW
  iintro HW
  iapply (wait_next m K c 38 (by decide) (semQ_of_off cc0_scratch1 (nb c 2) 6 (k0_off23_eq c 1) _) c 6 (regM_of_off c 6 (k0_off25_eq c) _)) $$ [HW]
  · isplitr; · iexact HR
    iexact HW
  iintro HW
  iapply (wait_next m K c 39 (by decide) (semQ_of_off cc0_scratch1 (nb c 2) 7 (k0_off26_eq c 1) _) c 7 (regM_of_off c 7 (k0_off28_eq c) _)) $$ [HW]
  · isplitr; · iexact HR
    iexact HW
  iintro HW
  unfold wpc; rw [wp_ret]; imodintro
  iapply Hk; iexact HW

theorem part12_step (K : Dev nD × CK → ℕ) (c : Dev nD) (k0_h2 : k0_cond2 i = 1#1) {Q : _ → sProp 𝕄} :
    iprop(records m K ∗ Waiting m c 40)
      ⊢ iprop((∀ r, Waiting m c 44 -∗ Q r) -∗ wpc c (k0_part12 (F := F) i xM hx oM ho commM (Memref.isWhole_whole _) cc0_scratch1 cc0_scratch2 c k0_h2) Q) := by
  rw [k0_part12_eq_skeleton]; unfold k0_part12_skel
  simp only [Prog.lift, Prog.bind_op, Prog.bind_ret, Prog.pure_eq_ret]
  iintro ⟨#HR, HW⟩ Hk
  iapply (wait_next m K c 40 (by decide) (semQ_of_off cc0_scratch1 (nb c 3) 0 (k0_off5_eq c 2) _) c 0 (regM_of_off c 0 (k0_off7_eq c) _)) $$ [HW]
  · isplitr; · iexact HR
    iexact HW
  iintro HW
  iapply (wait_next m K c 41 (by decide) (semQ_of_off cc0_scratch1 (nb c 3) 1 (k0_off8_eq c 2) _) c 1 (regM_of_off c 1 (k0_off10_eq c) _)) $$ [HW]
  · isplitr; · iexact HR
    iexact HW
  iintro HW
  iapply (wait_next m K c 42 (by decide) (semQ_of_off cc0_scratch1 (nb c 3) 2 (k0_off11_eq c 2) _) c 2 (regM_of_off c 2 (k0_off13_eq c) _)) $$ [HW]
  · isplitr; · iexact HR
    iexact HW
  iintro HW
  iapply (wait_next m K c 43 (by decide) (semQ_of_off cc0_scratch1 (nb c 3) 3 (k0_off14_eq c 2) _) c 3 (regM_of_off c 3 (k0_off16_eq c) _)) $$ [HW]
  · isplitr; · iexact HR
    iexact HW
  iintro HW
  unfold wpc; rw [wp_ret]; imodintro
  iapply Hk; iexact HW

theorem part13_step (K : Dev nD × CK → ℕ) (c : Dev nD) (k0_h2 : k0_cond2 i = 1#1) {Q : _ → sProp 𝕄} :
    iprop(records m K ∗ Waiting m c 44)
      ⊢ iprop((Waiting m c 48 -∗ wpc c (.op (.load commM (Rect.unit (s := S4x32x1024) ![0, 0, 0] S1x32x1024.size inb_S4x32x1024_S1x32x1024_0_0_0).toLoadRect (View.loadsAt_vmem h_S1x32x1024)) fun u0 =>
          .op (.load commM (Rect.unit (s := S4x32x1024) ![1, 0, 0] S1x32x1024.size inb_S4x32x1024_S1x32x1024_1_0_0).toLoadRect (View.loadsAt_vmem h_S1x32x1024)) fun u1 => .ret ⟨flat u0, flat u1⟩) Q) -∗ wpc c (k0_part13 (F := F) i xM hx oM ho commM (Memref.isWhole_whole _) cc0_scratch1 cc0_scratch2 c k0_h2) Q) := by
  rw [k0_part13_eq_skeleton]; unfold k0_part13_skel
  simp only [Prog.lift, Prog.bind_op, Prog.bind_ret, Prog.pure_eq_ret]
  iintro ⟨#HR, HW⟩ Hk
  iapply (wait_next m K c 44 (by decide) (semQ_of_off cc0_scratch1 (nb c 3) 4 (k0_off17_eq c 2) _) c 4 (regM_of_off c 4 (k0_off19_eq c) _)) $$ [HW]
  · isplitr; · iexact HR
    iexact HW
  iintro HW
  iapply (wait_next m K c 45 (by decide) (semQ_of_off cc0_scratch1 (nb c 3) 5 (k0_off20_eq c 2) _) c 5 (regM_of_off c 5 (k0_off22_eq c) _)) $$ [HW]
  · isplitr; · iexact HR
    iexact HW
  iintro HW
  iapply (wait_next m K c 46 (by decide) (semQ_of_off cc0_scratch1 (nb c 3) 6 (k0_off23_eq c 2) _) c 6 (regM_of_off c 6 (k0_off25_eq c) _)) $$ [HW]
  · isplitr; · iexact HR
    iexact HW
  iintro HW
  iapply (wait_next m K c 47 (by decide) (semQ_of_off cc0_scratch1 (nb c 3) 7 (k0_off26_eq c 2) _) c 7 (regM_of_off c 7 (k0_off28_eq c) _)) $$ [HW]
  · isplitr; · iexact HR
    iexact HW
  iintro HW
  iapply Hk; iexact HW

end Cert.TopK

end
-- ==== Proof.Body.lean ====
/-
# One point of the pipeline, part by part

A point loads a block of rows, puts the numbers picked from it into the device's own part of the exchange buffer, and
sends that part to the three other devices. The first point also meets the other devices.
-/
module

public import proofs.«01_k».proof.Proof.Waits

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over pairs -/

omit [FloatOps F] in
theorem bigSep_img {ι κ : Type} [DecidableEq ι] [DecidableEq κ] (f : ι → κ) (s : Finset ι) (hf : ∀ a ∈ s, ∀ b ∈ s, f a = f b → a = b)
    (Φ : κ → sProp 𝕄) : bigSep (s.image f) Φ = bigSep s fun i => Φ (f i) := by
  induction s using Finset.induction_on with
  | empty => rw [Finset.image_empty, bigSep_empty, bigSep_empty]
  | insert a s ha ih =>
    rw [Finset.image_insert, bigSep_insert, bigSep_insert ha,
      ih fun x hx y hy => hf x (Finset.mem_insert_of_mem hx) y (Finset.mem_insert_of_mem hy)]
    intro h
    obtain ⟨b, hb, e⟩ := Finset.mem_image.mp h
    exact ha (hf b (Finset.mem_insert_of_mem hb) a (Finset.mem_insert_self _ _) e ▸ hb)

omit [FloatOps F] in
theorem bigSep_pairs {ι κ : Type} [DecidableEq ι] [DecidableEq κ] (s : Finset ι) (t : Finset κ) (Φ : ι × κ → sProp 𝕄) :
    bigSep (s ×ˢ t) Φ = bigSep s fun a => bigSep t fun b => Φ (a, b) := by
  have e : s ×ˢ t = (s.sigma fun _ => t).image fun x : (_ : ι) × κ => (x.1, x.2) := by
    ext ⟨a, b⟩
    simp only [Finset.mem_product, Finset.mem_image, Finset.mem_sigma, Prod.mk.injEq]
    exact ⟨fun h => ⟨⟨a, b⟩, h, rfl, rfl⟩, by rintro ⟨⟨x, y⟩, h, rfl, rfl⟩; exact h⟩
  rw [e, bigSep_img _ _ (by rintro ⟨x, y⟩ _ ⟨x', y'⟩ _ h; cases h; rfl), Pipeline.bigSep_sigma]

omit [FloatOps F] in
theorem bigSep_two (Φ : Bool → sProp 𝕄) : bigSep Finset.univ Φ = iprop(Φ false ∗ Φ true) :=
  bigSep_univ_eq_bigSepL [false, true] (by decide) (by decide) Φ

omit [FloatOps F] in
theorem bigSep_peers_comm {κ : Type} [DecidableEq κ] (c : Dev nD) (t : Finset κ) (Φ : Dev nD → κ → sProp 𝕄) :
    (bigSep (peers c) fun p => bigSep t fun j => Φ p j) = bigSep t fun j => bigSep (peers c) fun p => Φ p j := by
  simp only [bigSep_peers, bigSep_sep']

/-! ## The local half of a point -/

theorem readAt_full (xM : Memref sig .tc .vmem S128x8192 .f32) (f) :
    xM.view.readAt (Elt F) (Rect.unit (s := S128x8192) ![0, 0] S128x8192.size inb_S128x8192_S128x8192_0_0).toLoadRect f = xM.view.read (Elt F) f := by
  funext y
  show xM.view.read (Elt F) f _ = _
  congr 1
  funext a
  apply Fin.ext
  show (![0, 0] : Fin 2 → ℕ) a + 1 * (y a).val = (y a).val
  fin_cases a <;> simp

theorem part_stored (c s : Dev nD) (j : Fin 8) (f : (cc0_scratch0 : Ref sig .tc).ty.Contents (Elt F)) :
    ((commM.access (regR s j)).loc (c : Thread nD τ) ↦[blk s j]{fullShare}
        ((commM.access (regR s j)).write (Elt F) f (localTop (xblk m s j)) Finset.univ) : sProp 𝕄)
      = part c s j fullShare (final m) := by
  unfold part
  refine pointsTo_congr fun i hi => ?_
  rw [← set_access] at hi
  obtain ⟨x, -, rfl⟩ := Finset.mem_map.mp hi
  rw [View.write_emb_of_mem _ _ (Finset.mem_univ _)]
  exact (final_emb m s j x).symm

variable (i : grid0.Coords) (xM : Memref sig .tc .vmem S128x8192 .f32) (hx : xM.IsWhole) (oM : Memref sig .tc .vmem S1024x32 .f32) (ho : oM.IsWhole)

/-- What a point does after its local half. -/
abbrev rest (c : Dev nD) : PP F :=
  (meet i c).bind fun _ => (k0_part41 i xM hx oM ho commM (Memref.isWhole_whole _) cc0_scratch1 cc0_scratch2 (BitVec.ofNat 32 (i 0).val) c (Scalar.remsi (Scalar.divsi (Dev.word c) 1#32) 4#32)).bind fun _ => .ret ⟨⟩

theorem load_part (c s : Dev nD) (j : Fin 8) (q : PosShare TreeShare) (f) {r : Rect S4x32x1024} (hr : r = regR s j) {hl : commM.view.LoadsAt r.toLoadRect}
    {α : Type} {Q : α → sProp 𝕄} {k : (r.toLoadRect.shape.Idx → Elt F .f32) → Prog (TpuEff nD τ sig (Elt F) Λ₀ .tc) α} :
    part c s j q f ⊢ iprop((part c s j q f -∗ wpc c (k (commM.view.readAt (Elt F) r.toLoadRect f)) Q) -∗ wpc c (.op (.load commM r.toLoadRect hl) k) Q) := by
  subst hr
  unfold part
  exact wp_load 𝒱₀ (c : Thread nD τ) none Set.univ (m := commM) (by
    intro x hx
    obtain ⟨y, hy, rfl⟩ := Finset.mem_map.mp hx
    exact hy)

theorem store_part (c s : Dev nD) (j : Fin 8) (f) {off : Fin 3 → ℕ} (h : off = ![s.val, 0, 128 * j.val])
    {hin : ∀ a, off a + S1x32x128.size a ≤ S4x32x1024.size a} {hx : (commM.access (Rect.unit (s := S4x32x1024) off S1x32x128.size hin)).Stores Finset.univ} {hm}
    {α : Type} {Q : α → sProp 𝕄} {k : PUnit → Prog (TpuEff nD τ sig (Elt F) Λ₀ .tc) α} :
    part c s j fullShare f ⊢ iprop((part c s j fullShare (final m) -∗ wpc c (k ⟨⟩) Q)
      -∗ wpc c (.op (.store commM (Rect.unit (s := S4x32x1024) off S1x32x128.size hin) (localTop (xblk m s j)) Finset.univ hx hm) k) Q) := by
  subst h
  rw [← part_stored m c s j f]
  unfold part
  exact wp_store 𝒱₀ (c : Thread nD τ) none Set.univ (m := commM) (r := regR s j) (le_of_eq (set_access s j))

theorem local_step (c : Dev nD) (j : Fin 8) (hj : (i 0).val = j.val) (f) {Q : PUnit → sProp 𝕄} :
    iprop(part c c j fullShare f ∗ owns (c : Thread nD τ) xM fullShare (xblk m c j))
      ⊢ iprop(((part c c j fullShare (final m) ∗ owns (c : Thread nD τ) xM fullShare (xblk m c j)) -∗ wpc c (rest i xM hx oM ho c) Q)
          -∗ wpc c (cc0__fused_body i xM hx oM ho commM (Memref.isWhole_whole _) cc0_scratch1 cc0_scratch2) Q) := by
  have hO : k0_off1 i c = ![c.val, 0, 128 * j.val] := by rw [k0_off1_eq, hj]
  have hR : Rect.unit (s := S4x32x1024) (k0_off1 i c) S1x32x128.size (k0_off1_inb i c) = regR c j :=
    regR_of_off c j hO _
  rw [body_eq]
  unfold wpc
  rw [wp_deviceId]
  show _ ⊢ iprop(_ -∗ wp _ _ _ (Prog.op _ _) _)
  unfold owns
  iintro ⟨Hp, ⟨%g, %hg, Hx⟩⟩ Hk
  iapply (wp_load 𝒱₀ (c : Thread nD τ) none Set.univ (m := xM) (View.setOn_subset_set _ _)) $$ Hx; iintro Hx
  rw [readAt_full, hg]
  iapply (load_part c c j fullShare f hR) $$ Hp; iintro Hp
  iapply (store_part m c c j f hO) $$ Hp; iintro Hp
  iapply Hk
  isplitl [Hp]; · iexact Hp
  iexists g
  isplitr; · ipureintro; exact hg
  iexact Hx

/-! ## The meeting -/

theorem meet_first (h1 : k0_cond1 i = 1#1) (K : Dev nD × CK → ℕ) (c : Dev nD) {Q : PUnit → sProp 𝕄} :
    iprop(records m K ∗ levAts L lv ∗ cred (tallyAt (barC c) () 3) ∗ (∃ W, owes (c : Thread nD τ) (O₀ c) W) ∗ atPos ER (barC c) 0 ∅ 0
        ∗ (bigSep (peers c) fun p => dutyTok ER (barC p) 0 c) ∗ bigSep (peers c) fun p => barPay p c)
      ⊢ iprop(((∃ W, owes (c : Thread nD τ) (Orest c 8) W) ∗ semVal (barC c) 0 ∗ (bigSep (peers c) fun p => barPay c p) -∗ Q ⟨⟩)
          -∗ wpc c (meet i c) Q) := by
  unfold meet
  rw [dif_pos h1]
  simp only [semSignalWord, semWaitWord, Prog.lift, Prog.bind_op, Prog.bind_ret, Prog.pure_eq_ret]
  rw [bigSep_peers, bigSep_peers (c := c) (Φ := fun p => barPay p c)]
  unfold O₀
  iintro ⟨#HR, #Hlev, Hc, ⟨%W, HO⟩, Hat, ⟨Ht1, Ht2, Ht3⟩, ⟨Hp1, Hp2, Hp3⟩⟩ Hk
  iapply (signal_step m K c (nb c 1) (nb1_ne c) (Fin.ext (k0_dev1_eq c)) _ W) $$ [HO Ht1 Hp1]
  · isplitr; · iexact HR
    isplitl [HO]; · iexact HO
    isplitl [Ht1]; · iexact Ht1
    iexact Hp1
  iintro HO
  iapply (signal_step m K c (nb c 2) (nb2_ne c) (Fin.ext (k0_dev2_eq c)) _ W) $$ [HO Ht2 Hp2]
  · isplitr; · iexact HR
    isplitl [HO]; · iexact HO
    isplitl [Ht2]; · iexact Ht2
    iexact Hp2
  iintro HO
  iapply (signal_step m K c (nb c 3) (nb3_ne c) (Fin.ext (k0_dev3_eq c)) _ W) $$ [HO Ht3 Hp3]
  · isplitr; · iexact HR
    isplitl [HO]; · iexact HO
    isplitl [Ht3]; · iexact Ht3
    iexact Hp3
  iintro HO
  iapply (barrier_step m K c 8 W) $$ [Hc HO Hat]
  · isplitr; · iexact HR
    isplitr; · iexact Hlev
    isplitl [Hc]; · iexact Hc
    isplitl [HO]; · iexact HO
    iexact Hat
  iintro ⟨HO, Hat, Hpay⟩
  imod (Rounds.cell_close ER (Rd m) (Set.mem_univ (K (c, none))) (fun h => h) (R := 1) (duties_later m (barC c))) $$ [Hat] with Hz
  · isplitr; · iapply (inv_at m K c none); iexact HR
    iexact Hat
  rw [wp_ret]; imodintro
  iapply Hk
  isplitl [HO]; · iexact HO
  isplitl [Hz]; · iexact Hz
  iexact Hpay

theorem meet_later (h1 : ¬ k0_cond1 i = 1#1) (c : Dev nD) : meet (F := F) i c = .ret ⟨⟩ := by
  unfold meet; rw [dif_neg h1]; rfl

/-! ## The three transfers of a point -/

/-- What the transfers of block `j` need beside the block itself, -/
def stepT (c : Dev nD) (j : Fin 8) : sProp 𝕄 :=
  bigSep (peers c) fun p => iprop(dutyTok ER (sendC c p j) 0 p ∗ dutyTok ER (recvC p c j) 0 c ∗ ∃ f, part p c j fullShare f)
/-- and what they give back. -/
def stepD (c : Dev nD) (j : Fin 8) : sProp 𝕄 := bigSep (peers c) fun p => cred (tallyAt (sendC c p j) () N)

omit [FloatOps F] in
theorem part_deal (c : Dev nD) (j : Fin 8) (f) : part (F := F) c c j fullShare f = bigSep (peers c) fun p => part c c j (qTo c p) f := by
  unfold part qTo
  exact Transfers.pointsTo_deal (peers c) (peers_nonempty c) fullShare

/-- What is left of a point after its transfers. -/
abbrev after41 (c : Dev nD) (v2 : BitVec 32) : PP F :=
  if h : k0_cond2 i = 1#1 then (finish i xM hx oM ho commM (Memref.isWhole_whole _) cc0_scratch1 cc0_scratch2 c v2 h).bind fun _ => .ret ⟨⟩ else .ret ⟨⟩

theorem sends_step (K : Dev nD × CK → ℕ) (c : Dev nD) (j : Fin 8) (k : ℕ) (hj : (i 0).val = j.val) (hk : j.val + k = 7) (a v2 : BitVec 32) {Q : PUnit → sProp 𝕄} :
    iprop(records m K ∗ part c c j fullShare (final m) ∗ stepT c j ∗ ∃ W, owes (c : Thread nD τ) (Orest c (k + 1)) W)
      ⊢ iprop(((stepD c j ∗ ∃ W, owes (c : Thread nD τ) (Orest c k) W) -∗ wpc c (after41 i xM hx oM ho c v2) Q)
          -∗ wpc c (k0_part41 i xM hx oM ho commM (Memref.isWhole_whole _) cc0_scratch1 cc0_scratch2 a c v2) Q) := by
  have hM : ∀ hin, (commM.slice (Rect.unit (s := S4x32x1024) (k0_off4 i c) S1x32x128.size hin) (fun _ => rfl)).squeeze S32x128 squeezes_S1x32x128_S32x128 = regM c j :=
    regM_of_off c j (by rw [k0_off4_eq, hj])
  have hr : ∀ hin, (((cc0_scratch2 : DmaSems sig S4x8).slice (Rect.unit (s := S4x8) (k0_off3 i c) S1x1.size hin)).squeeze S_ squeezes_S1x1_S_).sem = recvQ c j :=
    semQ_of_off cc0_scratch2 c j (by rw [k0_off3_eq, hj])
  have hs : ∀ (r : Fin 3) hin, (((cc0_scratch1 : DmaSems sig S4x8).slice (Rect.unit (s := S4x8) (k0_off2 i c (BitVec.ofNat 32 (1 + r.val))) S1x1.size hin)).squeeze S_ squeezes_S1x1_S_).sem = sendQ (nb c (r.val + 1)) j :=
    fun r => semQ_of_off cc0_scratch1 (nb c (r.val + 1)) j (by rw [k0_off2_eq, hj]; rfl)
  have hj' : (⟨7 - k, by omega⟩ : Fin 8) = j := Fin.ext (by simp only; omega)
  rw [part41_eq, part_deal, bigSep_peers]
  unfold stepT stepD
  rw [bigSep_peers, bigSep_peers, Orest, hj']
  iintro ⟨#HR, ⟨Hq1, Hq2, Hq3⟩, ⟨⟨Hs1, Hr1, ⟨%f1, Hd1⟩⟩, ⟨Hs2, Hr2, ⟨%f2, Hd2⟩⟩, ⟨Hs3, Hr3, ⟨%f3, Hd3⟩⟩⟩, ⟨%W, HO⟩⟩ Hk
  iapply (send_step m K c (nb c 1) (nb1_ne c) j (Fin.ext (k0_dev4_eq c)) (hM _) (hM _) (hs 0 _) (hr _) f1 _ W) $$ [Hq1 Hs1 Hr1 Hd1 HO]
  · isplitr; · iexact HR
    isplitl [Hq1]; · iexact Hq1
    isplitl [Hd1]; · iexact Hd1
    isplitl [HO]; · iexact HO
    isplitl [Hs1]; · iexact Hs1
    iexact Hr1
  iintro ⟨Hc1, HO⟩
  iapply (send_step m K c (nb c 2) (nb2_ne c) j (Fin.ext (k0_dev5_eq c)) (hM _) (hM _) (hs 1 _) (hr _) f2 _ W) $$ [Hq2 Hs2 Hr2 Hd2 HO]
  · isplitr; · iexact HR
    isplitl [Hq2]; · iexact Hq2
    isplitl [Hd2]; · iexact Hd2
    isplitl [HO]; · iexact HO
    isplitl [Hs2]; · iexact Hs2
    iexact Hr2
  iintro ⟨Hc2, HO⟩
  iapply (send_step m K c (nb c 3) (nb3_ne c) j (Fin.ext (k0_dev6_eq c)) (hM _) (hM _) (hs 2 _) (hr _) f3 _ W) $$ [Hq3 Hs3 Hr3 Hd3 HO]
  · isplitr; · iexact HR
    isplitl [Hq3]; · iexact Hq3
    isplitl [Hd3]; · iexact Hd3
    isplitl [HO]; · iexact HO
    isplitl [Hs3]; · iexact Hs3
    iexact Hr3
  iintro ⟨Hc3, HO⟩
  iapply Hk
  isplitl [Hc1 Hc2 Hc3]
  · isplitl [Hc1]; · iexact Hc1
    isplitl [Hc2]; · iexact Hc2
    iexact Hc3
  iexists W; iexact HO

end Cert.TopK

end
-- ==== Proof.Finish.lean ====
/-
# The end of the last point

After the 48 waits a device holds its whole exchange buffer, full. It merges the four parts and stores the result.
-/
module

public import proofs.«01_k».proof.Proof.Body

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the waits -/

/-- The exchange semaphores that a transfer uses: those between two different devices. -/
abbrev KS (c : Dev nD) : Finset (Bool × Fin 4 × Fin 8) := Finset.univ ×ˢ (peers c ×ˢ Finset.univ)

theorem key_img (c : Dev nD) : (Finset.range 48).image (key c) = KS c := by revert c; decide +kernel
theorem key_inj (c : Dev nD) : ∀ a ∈ Finset.range 48, ∀ b ∈ Finset.range 48, key c a = key c b → a = b := by
  have h : ∀ c : Dev nD, ∀ a < 48, ∀ b < 48, key c a = key c b → a = b := by decide +kernel
  exact fun a ha b hb => h c a (Finset.mem_range.mp ha) b (Finset.mem_range.mp hb)

omit [FloatOps F] in
theorem over_keys (c : Dev nD) (Φ : Bool × Fin 4 × Fin 8 → sProp 𝕄) :
    (bigSep (Finset.range 48) fun n => Φ (key c n)) = bigSep (KS c) Φ := by
  rw [← key_img, bigSep_img (key c) _ (key_inj c)]

omit [FloatOps F] in
theorem over_KS (c : Dev nD) (Φ : Bool × Fin 4 × Fin 8 → sProp 𝕄) :
    bigSep (KS c) Φ = iprop((bigSep (peers c) fun p => bigSep Finset.univ fun j => Φ (false, p, j))
      ∗ bigSep (peers c) fun p => bigSep Finset.univ fun j => Φ (true, p, j)) := by
  rw [bigSep_pairs, bigSep_two, bigSep_pairs, bigSep_pairs]

theorem waiting_start (c : Dev nD) :
    iprop((∃ W, owes (c : Thread nD τ) 0 W) ∗ (bigSep (KS c) fun k => cred (tallyAt (cell c (some k)) () N))
        ∗ bigSep (KS c) fun k => atPos ER (cell c (some k)) 0 ∅ 0) ⊢ (Waiting m c 0 : sProp 𝕄) := by
  unfold Waiting
  rw [show Finset.Ico 0 48 = Finset.range 48 from by ext; simp, over_keys c (fun k => want c k), Finset.range_zero, bigSep_empty]
  unfold want
  rw [bigSep_sep']
  iintro ⟨HO, Hc, Ha⟩
  isplitl [HO]; · iexact HO
  isplitl [Hc Ha]
  · isplitl [Hc]; · iexact Hc
    iexact Ha
  iempintro

/-- The whole buffer. -/
abbrev comm (c : Dev nD) (f : Buf (Elt F) ((c : Thread nD τ).loc cc0_scratch0)) : sProp 𝕄 := (c : Thread nD τ).loc cc0_scratch0 ↦{fullShare} f

omit [FloatOps F] in
theorem comm_parts (c : Dev nD) (f) : comm (F := F) c f
    = iprop((bigSep Finset.univ fun j => part c c j fullShare f) ∗ bigSep (peers c) fun s => bigSep Finset.univ fun j => part c s j fullShare f) := by
  unfold comm part
  rw [Ring.pointsTo_blocks (ℓ := (c : Thread nD τ).loc cc0_scratch0) (fun b : Fin 4 × Fin 8 => blk b.1 b.2) (fun a b h => blk_disj a b h) blk_cover, bigSep_univ_prod, bigSep_univ_split c]
  rfl

theorem waiting_end (c : Dev nD) :
    (Waiting m c 48 : sProp 𝕄) ⊢ iprop((∃ W, owes (c : Thread nD τ) 0 W) ∗ (bigSep (KS c) fun k => semVal (cell c (some k)) 0) ∗ comm c (final m)) := by
  unfold Waiting got
  rw [over_keys c (fun k => iprop(semVal (cell c (some k)) 0 ∗ payOf m c c (some (some k)))), bigSep_sep', over_KS c (fun k => payOf m c c (some (some k))), comm_parts,
    bigSep_congr (s := Finset.univ) (fun (j : Fin 8) _ => part_deal (F := F) c j (final m)), ← bigSep_peers_comm]
  iintro ⟨HO, -, Hz, H1, H2⟩
  isplitl [HO]; · iexact HO
  isplitl [Hz]; · iexact Hz
  isplitl [H1]; · iexact H1
  iexact H2

/-! ## The merge -/

/-- What the device reads of device `s`'s rows of the buffer. -/
def row (s : Fin 4) : Vec F S1x32x1024 .f32 := fun y =>
  final m (fun a => ⟨(![s.val, 0, 0] : Fin 3 → ℕ) a + 1 * (y a).val, by
    have h := (y a).isLt; have hs := s.isLt
    fin_cases a
    · show s.val + 1 * (y 0).val < 4; have : (y 0).val < 1 := (y 0).isLt; omega
    · show 0 + 1 * (y 1).val < 32; have : (y 1).val < 32 := (y 1).isLt; omega
    · show 0 + 1 * (y 2).val < 1024; have : (y 2).val < 1024 := (y 2).isLt; omega⟩)

/-- The result, the same on all devices. -/
def outAt : (cc0_stg1_0 : Ref sig .tc).ty.Contents (Elt F) := merged (row m 0) (row m 1) (row m 2) (row m 3)

variable (i : grid0.Coords) (xM : Memref sig .tc .vmem S128x8192 .f32) (hx : xM.IsWhole) (oM : Memref sig .tc .vmem S1024x32 .f32) (ho : oM.IsWhole)

omit [FloatOps F] in
theorem out_stored (f) (w : S1024x32.Idx → Elt F .f32) :
    oM.view.read (Elt F) ((oM.access (Rect.unit (s := S1024x32) ![0, 0] S1024x32.size inb_S1024x32_S1024x32_0_0)).write (Elt F) f w Finset.univ) = w := by
  funext y
  have e : (Rect.unit (s := S1024x32) ![0, 0] S1024x32.size inb_S1024x32_S1024x32_0_0).emb y = y := by
    funext a
    apply Fin.ext
    show (![0, 0] : Fin 2 → ℕ) a + 1 * (y a).val = (y a).val
    fin_cases a <;> simp
  have e2 : (oM.access (Rect.unit (s := S1024x32) ![0, 0] S1024x32.size inb_S1024x32_S1024x32_0_0)).emb y = oM.view.emb y := congrArg oM.view.emb e
  rw [View.read_apply, ← e2, View.write_emb_of_mem _ _ (Finset.mem_univ _), cast_cast, cast_eq]

omit [FloatOps F] in
theorem out_sub : (oM.access (Rect.unit (s := S1024x32) ![0, 0] S1024x32.size inb_S1024x32_S1024x32_0_0)).setOn Finset.univ ⊆ oM.view.set := fun x hx => by
  obtain ⟨y, -, rfl⟩ := Finset.mem_map.mp hx
  exact Finset.mem_map.mpr ⟨_, Finset.mem_univ _, rfl⟩

theorem wpc_bind (c : Dev nD) {α β : Type} (p : Prog (TpuEff nD τ sig (Elt F) Λ₀ .tc) α) (k : α → Prog (TpuEff nD τ sig (Elt F) Λ₀ .tc) β) (Q : β → sProp 𝕄) :
    wpc c (p >>= k) Q = wpc c p fun a => wpc c (k a) Q := wp_bind _ _ _ p k Q

theorem finish_step (K : Dev nD × CK → ℕ) (c : Dev nD) (v2 : BitVec 32) (h2 : k0_cond2 i = 1#1) (X) {Q : PUnit → sProp 𝕄} :
    iprop(records m K ∗ Waiting m c 0 ∗ owns (c : Thread nD τ) oM fullShare X)
      ⊢ iprop(((∃ W, owes (c : Thread nD τ) 0 W) ∗ (bigSep (KS c) fun k => semVal (cell c (some k)) 0) ∗ comm c (final m) ∗ owns (c : Thread nD τ) oM fullShare (outAt m) -∗ Q ⟨⟩)
          -∗ wpc c (finish i xM hx oM ho commM (Memref.isWhole_whole _) cc0_scratch1 cc0_scratch2 c v2 h2) Q) := by
  unfold finish owns
  iintro ⟨#HR, HW, ⟨%g, %hg, Hout⟩⟩ Hk
  rw [wpc_bind]
  iapply (part1_step m i xM hx oM ho K c _ h2) $$ [HW]
  · isplitr; · iexact HR
    iexact HW
  iintro %r1 HW
  obtain ⟨a1, a2, a3⟩ := r1
  rw [wpc_bind]
  iapply (part2_step m i xM hx oM ho K c h2 _ _ _) $$ [HW]
  · isplitr; · iexact HR
    iexact HW
  iintro %r2 HW
  rw [wpc_bind]
  iapply (part3_step m i xM hx oM ho K c _ h2 _) $$ [HW]
  · isplitr; · iexact HR
    iexact HW
  iintro %r3 HW
  rw [wpc_bind]
  iapply (part4_step m i xM hx oM ho K c h2 _) $$ [HW]
  · isplitr; · iexact HR
    iexact HW
  iintro %r4 HW
  rw [wpc_bind]
  iapply (part5_step m i xM hx oM ho K c _ h2 _) $$ [HW]
  · isplitr; · iexact HR
    iexact HW
  iintro %r5 HW
  rw [wpc_bind]
  iapply (part6_step m i xM hx oM ho K c h2 _) $$ [HW]
  · isplitr; · iexact HR
    iexact HW
  iintro %r6 HW
  rw [wpc_bind]
  iapply (part7_step m i xM hx oM ho K c h2 _) $$ [HW]
  · isplitr; · iexact HR
    iexact HW
  iintro %r7 HW
  rw [wpc_bind]
  iapply (part8_step m i xM hx oM ho K c _ h2) $$ [HW]
  · isplitr; · iexact HR
    iexact HW
  iintro %r8 HW
  rw [wpc_bind]
  iapply (part9_step m i xM hx oM ho K c _ h2) $$ [HW]
  · isplitr; · iexact HR
    iexact HW
  iintro %r9 HW
  rw [wpc_bind]
  iapply (part10_step m i xM hx oM ho K c h2) $$ [HW]
  · isplitr; · iexact HR
    iexact HW
  iintro %r10 HW
  rw [wpc_bind]
  iapply (part11_step m i xM hx oM ho K c _ h2) $$ [HW]
  · isplitr; · iexact HR
    iexact HW
  iintro %r11 HW
  rw [wpc_bind]
  iapply (part12_step m i xM hx oM ho K c h2) $$ [HW]
  · isplitr; · iexact HR
    iexact HW
  iintro %r12 HW
  rw [wpc_bind]
  iapply (part13_step m i xM hx oM ho K c h2) $$ [HW]
  · isplitr; · iexact HR
    iexact HW
  iintro HW
  ihave H := (waiting_end m c) $$ HW
  icases H with ⟨HO, Hz, Hc⟩
  iapply (wp_load 𝒱₀ (c : Thread nD τ) none Set.univ (m := commM) (Finset.subset_univ _)) $$ Hc; iintro Hc
  iapply (wp_load 𝒱₀ (c : Thread nD τ) none Set.univ (m := commM) (Finset.subset_univ _)) $$ Hc; iintro Hc
  rw [wp_ret]; imodintro
  dsimp only
  rw [mergeP_eq]
  iapply (wp_load 𝒱₀ (c : Thread nD τ) none Set.univ (m := commM) (Finset.subset_univ _)) $$ Hc; iintro Hc
  iapply (wp_load 𝒱₀ (c : Thread nD τ) none Set.univ (m := commM) (Finset.subset_univ _)) $$ Hc; iintro Hc
  iapply (wp_load 𝒱₀ (c : Thread nD τ) none Set.univ (m := oM) (View.setOn_subset_set _ _)) $$ Hout; iintro Hout
  iapply (wp_store 𝒱₀ (c : Thread nD τ) none Set.univ (m := oM) (r := Rect.unit (s := S1024x32) ![0, 0] S1024x32.size inb_S1024x32_S1024x32_0_0) (Mk := Finset.univ) (out_sub oM)) $$ Hout; iintro Hout
  rw [wp_ret]; imodintro
  iapply Hk
  isplitl [HO]; · iexact HO
  isplitl [Hz]; · iexact Hz
  isplitl [Hc]; · iexact Hc
  iexists _
  isplitr
  rotate_left
  · iexact Hout
  ipureintro
  exact out_stored oM _ _

end Cert.TopK

end
-- ==== Proof.Point.lean ====
/-
# The points of the pipeline

What a device holds before each point, and each point from what it holds before it to what it holds after it.
-/
module

public import proofs.«01_k».proof.Proof.Finish

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds between two points -/

/-- The blocks before block `n`, and the blocks from block `n` on. -/
def lo (n : ℕ) : Finset (Fin 8) := Finset.univ.filter fun j => j.val < n
def hi (n : ℕ) : Finset (Fin 8) := Finset.univ.filter fun j => n ≤ j.val

theorem lo_zero : lo 0 = ∅ := by decide
theorem lo_all : lo 8 = Finset.univ := by decide
theorem hi_zero : hi 0 = Finset.univ := by decide
theorem hi_all : hi 8 = ∅ := by decide

omit [FloatOps F] in
theorem hi_step (n : Fin 8) (Φ : Fin 8 → sProp 𝕄) : bigSep (hi n.val) Φ = iprop(Φ n ∗ bigSep (hi (n.val + 1)) Φ) := by
  have e : hi n.val = insert n (hi (n.val + 1)) := by
    revert n; decide
  rw [e, bigSep_ins (by revert n; decide)]
omit [FloatOps F] in
theorem lo_step (n : Fin 8) (Φ : Fin 8 → sProp 𝕄) : bigSep (lo (n.val + 1)) Φ = iprop(Φ n ∗ bigSep (lo n.val) Φ) := by
  have e : lo (n.val + 1) = insert n (lo n.val) := by
    revert n; decide
  rw [e, bigSep_ins (by revert n; decide)]

def known : sProp 𝕄 := iprop((∃ K, records m K) ∗ levAts L lv)
instance known_persistent : BI.Persistent (known m) := by unfold known; infer_instance

def posns (c : Dev nD) : sProp 𝕄 := bigSep Finset.univ fun k : Bool × Fin 4 × Fin 8 => atPos ER (cell c (some k)) 0 ∅ 0
def rcreds (c : Dev nD) : sProp 𝕄 := bigSep (peers c) fun s => bigSep Finset.univ fun j => cred (tallyAt (recvC c s j) () N)
def toks (c : Dev nD) (j : Fin 8) : sProp 𝕄 := bigSep (peers c) fun p => iprop(dutyTok ER (sendC c p j) 0 p ∗ dutyTok ER (recvC p c j) 0 c)
def stepR (c : Dev nD) (j : Fin 8) : sProp 𝕄 := iprop((∃ f, part c c j fullShare f) ∗ stepT c j)

/-- What a device starts from, beside its buffer. -/
def start (c : Dev nD) : sProp 𝕄 :=
  iprop(known m ∗ posns c ∗ rcreds c ∗ atPos ER (barC c) 0 ∅ 0 ∗ cred (tallyAt (barC c) () 3)
    ∗ (bigSep (peers c) fun p => dutyTok ER (barC p) 0 c) ∗ bigSep Finset.univ (toks c))
def phiA (c : Dev nD) : sProp 𝕄 := iprop(start m c ∗ ∃ f, comm c f)
def phiM (c : Dev nD) (n : ℕ) : sProp 𝕄 :=
  iprop(known m ∗ posns c ∗ rcreds c ∗ semVal (barC c) 0 ∗ bigSep (hi n) (stepR c) ∗ bigSep (lo n) (stepD c))
def phiZ (c : Dev nD) : sProp 𝕄 :=
  iprop(comm c (final m) ∗ (bigSep Finset.univ fun k : Bool × Fin 4 × Fin 8 => semVal (cell c (some k)) 0) ∗ semVal (barC c) 0)

def phi (c : Dev nD) (n : ℕ) : sProp 𝕄 := if n = 0 then phiA m c else if n < 8 then phiM m c n else phiZ m c
def owedAt (c : Dev nD) (n : ℕ) : CellTallies nD τ sig Unit := if n = 0 then O₀ c else Orest c (8 - n)

omit [FloatOps F] in
theorem steps_all (c : Dev nD) :
    iprop(bigSep Finset.univ (toks c) ∗ bigSep (peers c) fun p => barPay c p) ⊢ (bigSep Finset.univ (stepT c) : sProp 𝕄) := by
  unfold barPay
  rw [bigSep_peers_comm, ← bigSep_sep']
  refine bigSep_mono fun j _ => ?_
  unfold toks stepT
  rw [← bigSep_sep']
  refine bigSep_mono fun p _ => ?_
  exact Idealize.SL.BI.sep_assoc

/-- Two empty programs after each other. -/
theorem ret_two (c : Dev nD) {Q : PUnit → sProp 𝕄} : Q PUnit.unit ⊢ wpc (F := F) c (.ret PUnit.unit) fun _ => wpc c (.ret PUnit.unit) Q := by
  unfold wpc
  rw [wp_ret, wp_ret]
  iintro H
  imodintro
  imodintro
  iexact H

omit [FloatOps F] in
theorem part_some (c s : Dev nD) (j : Fin 8) (f) : part c s j fullShare f ⊢ (iprop(∃ f, part c s j fullShare f) : sProp 𝕄) := by
  iintro H; iexists f; iexact H

omit [FloatOps F] in
theorem lend (c : Dev nD) (f) : (bigSep (peers c) fun s => bigSep Finset.univ fun j => part c s j fullShare f) ⊢ (bigSep (peers c) fun p => barPay p c : sProp 𝕄) := by
  unfold barPay
  exact bigSep_mono fun s _ => bigSep_mono fun j _ => part_some c s j f

omit [FloatOps F] in
theorem mine (c : Dev nD) (n : ℕ) (f) : iprop((bigSep (hi n) fun j => part c c j fullShare f) ∗ bigSep (hi n) (stepT c)) ⊢ (bigSep (hi n) (stepR c) : sProp 𝕄) := by
  rw [← bigSep_sep']
  refine bigSep_mono fun j _ => ?_
  unfold stepR
  exact sep_mono_left (part_some c c j f)

variable (i : grid0.Coords) (xM : Memref sig .tc .vmem S128x8192 .f32) (hx : xM.IsWhole) (oM : Memref sig .tc .vmem S1024x32 .f32) (ho : oM.IsWhole)

theorem point_first (hi0 : (i 0).val = 0) (h1 : k0_cond1 i = 1#1) (h2 : ¬ k0_cond2 i = 1#1) (c : Dev nD) {Q : PUnit → sProp 𝕄} :
    iprop(phiA m c ∗ (∃ W, owes (c : Thread nD τ) (O₀ c) W) ∗ owns (c : Thread nD τ) xM fullShare (xblk m c 0))
      ⊢ iprop(((phiM m c 1 ∗ (∃ W, owes (c : Thread nD τ) (Orest c 7) W) ∗ owns (c : Thread nD τ) xM fullShare (xblk m c 0)) -∗ Q ⟨⟩)
          -∗ wpc c (cc0__fused_body i xM hx oM ho commM (Memref.isWhole_whole _) cc0_scratch1 cc0_scratch2) Q) := by
  unfold phiA start known
  iintro ⟨⟨⟨⟨⟨%K, #HR⟩, #Hlev⟩, Hpos, Hrc, Hat, Hcb, Htb, Htk⟩, ⟨%f, Hcomm⟩⟩, HO, Hx⟩ Hk
  ihave Hcomm := (Entails.of_eq (comm_parts c f)) $$ Hcomm
  icases Hcomm with ⟨Hown, Hoth⟩
  ihave Hown := (Entails.of_eq ((congrArg (fun S => bigSep S fun j => part c c j fullShare f) hi_zero.symm).trans (hi_step 0 fun j => part c c j fullShare f))) $$ Hown
  icases Hown with ⟨Hp, Hown⟩
  iapply (local_step m i xM hx oM ho c 0 hi0 f) $$ [Hp Hx]
  · isplitl [Hp]; · iexact Hp
    iexact Hx
  iintro ⟨Hp, Hx⟩
  unfold rest
  rw [show (meet (F := F) i c).bind = (meet (F := F) i c >>= ·) from rfl]
  dsimp only
  rw [wpc_bind]
  iapply (meet_first m i h1 K c) $$ [Hcb HO Hat Htb Hoth]
  · isplitr; · iexact HR
    isplitr; · iexact Hlev
    isplitl [Hcb]; · iexact Hcb
    isplitl [HO]; · iexact HO
    isplitl [Hat]; · iexact Hat
    isplitl [Htb]; · iexact Htb
    iapply (lend c f); iexact Hoth
  iintro ⟨HO, Hz, Hpay⟩
  ihave Hst := (steps_all c) $$ [Htk Hpay]
  · isplitl [Htk]; · iexact Htk
    iexact Hpay
  ihave Hst := (Entails.of_eq ((congrArg (fun S => bigSep S (stepT c)) hi_zero.symm).trans (hi_step 0 (stepT c)))) $$ Hst
  icases Hst with ⟨Ht, Hst⟩
  rw [show ∀ p : PP F, p.bind = (p >>= ·) from fun _ => rfl, wpc_bind]
  iapply (sends_step m i xM hx oM ho K c 0 7 hi0 rfl) $$ [Hp Ht HO]
  · isplitr; · iexact HR
    isplitl [Hp]; · iexact Hp
    isplitl [Ht]; · iexact Ht
    iexact HO
  iintro ⟨Hd, HO⟩
  unfold after41
  rw [dif_neg h2]
  iapply (ret_two c)
  iapply Hk
  unfold phiM known
  isplitr [HO Hx]
  · isplitr
    · isplitr; · iexists K; iexact HR
      iexact Hlev
    isplitl [Hpos]; · iexact Hpos
    isplitl [Hrc]; · iexact Hrc
    isplitl [Hz]; · iexact Hz
    isplitl [Hown Hst]
    · iapply (mine c 1 f)
      isplitl [Hown]; · iexact Hown
      iexact Hst
    iapply (Entails.of_eq (lo_step 0 (stepD c)).symm)
    isplitl [Hd]; · iexact Hd
    iapply (Entails.of_eq (show (iprop(emp) : sProp 𝕄) = bigSep (lo (0 : Fin 8).val) (stepD c) by rw [show lo (0 : Fin 8).val = ∅ from lo_zero, bigSep_empty]; rfl))
    iempintro
  isplitl [HO]; · iexact HO
  iexact Hx

theorem point_middle (j : Fin 8) (hj0 : 0 < j.val) (hj7 : j.val < 7) (hij : (i 0).val = j.val) (h1 : ¬ k0_cond1 i = 1#1) (h2 : ¬ k0_cond2 i = 1#1) (c : Dev nD)
    (k : ℕ) (hk : j.val + k = 7) {Q : PUnit → sProp 𝕄} :
    iprop(phiM m c j.val ∗ (∃ W, owes (c : Thread nD τ) (Orest c (k + 1)) W) ∗ owns (c : Thread nD τ) xM fullShare (xblk m c j))
      ⊢ iprop(((phiM m c (j.val + 1) ∗ (∃ W, owes (c : Thread nD τ) (Orest c k) W) ∗ owns (c : Thread nD τ) xM fullShare (xblk m c j)) -∗ Q ⟨⟩)
          -∗ wpc c (cc0__fused_body i xM hx oM ho commM (Memref.isWhole_whole _) cc0_scratch1 cc0_scratch2) Q) := by
  unfold phiM known
  rw [hi_step j, lo_step j]
  unfold stepR
  iintro ⟨⟨⟨⟨%K, #HR⟩, #Hlev⟩, Hpos, Hrc, Hz, ⟨⟨⟨%f, Hp⟩, Ht⟩, Hst⟩, Hds⟩, HO, Hx⟩ Hk
  iapply (local_step m i xM hx oM ho c j hij f) $$ [Hp Hx]
  · isplitl [Hp]; · iexact Hp
    iexact Hx
  iintro ⟨Hp, Hx⟩
  unfold rest
  rw [meet_later i h1]
  rw [show ∀ k : PUnit → PP F, (Prog.ret ⟨⟩ : PP F).bind k = k ⟨⟩ from fun _ => rfl]
  rw [show ∀ p : PP F, p.bind = (p >>= ·) from fun _ => rfl, wpc_bind]
  iapply (sends_step m i xM hx oM ho K c j k hij hk) $$ [Hp Ht HO]
  · isplitr; · iexact HR
    isplitl [Hp]; · iexact Hp
    isplitl [Ht]; · iexact Ht
    iexact HO
  iintro ⟨Hd, HO⟩
  unfold after41
  rw [dif_neg h2]
  iapply (ret_two c)
  iapply Hk
  isplitr [HO Hx]
  · isplitr
    · isplitr; · iexists K; iexact HR
      iexact Hlev
    isplitl [Hpos]; · iexact Hpos
    isplitl [Hrc]; · iexact Hrc
    isplitl [Hz]; · iexact Hz
    isplitl [Hst]; · iexact Hst
    isplitl [Hd]; · iexact Hd
    iexact Hds
  isplitl [HO]; · iexact HO
  iexact Hx

/-- The exchange semaphores that no transfer uses. -/
abbrev selfK (c : Dev nD) : Finset (Bool × Fin 4 × Fin 8) := Finset.univ.filter fun k => k.2.1 = c

theorem self_split (c : Dev nD) : (Finset.univ : Finset (Bool × Fin 4 × Fin 8)) = KS c ∪ selfK c := by
  ext ⟨b, s, j⟩
  simp only [Finset.mem_univ, Finset.mem_union, Finset.mem_product, Finset.mem_filter, true_and, and_true, mem_peers, true_iff]
  exact (em (s = c)).symm
theorem self_disj (c : Dev nD) : Disjoint (KS c) (selfK c) := by
  rw [Finset.disjoint_left]
  rintro ⟨b, s, j⟩ h h'
  exact mem_peers.mp (Finset.mem_product.mp (Finset.mem_product.mp h).2).1 (Finset.mem_filter.mp h').2

omit [FloatOps F] in
theorem over_all (c : Dev nD) (Φ : Bool × Fin 4 × Fin 8 → sProp 𝕄) : bigSep Finset.univ Φ = iprop(bigSep (KS c) Φ ∗ bigSep (selfK c) Φ) := by
  rw [self_split c, bigSep_union (self_disj c)]; rfl

/-- The semaphores that no transfer uses are at zero. -/
theorem close_self (K : Dev nD × CK → ℕ) (c : Dev nD) :
    iprop(records m K ∗ bigSep (selfK c) fun k => atPos ER (cell c (some k)) 0 ∅ 0)
      ⊢ (|={Set.univ}=> bigSep (selfK c) fun k => semVal (cell c (some k)) 0 : sProp 𝕄) := by
  refine BIBase.Entails.trans ?_ (bigSep_fupd _ _)
  refine BIBase.Entails.trans (sep_mono_left (BI.bigSep_of_persistent (selfK c) (records m K))) ?_
  rw [← bigSep_sep']
  refine bigSep_mono fun k hk => ?_
  obtain ⟨b, s, j⟩ := k
  obtain rfl : s = c := (Finset.mem_filter.mp hk).2
  exact (sep_mono_left (inv_at m K s (some (b, s, j)))).trans
    (Rounds.cell_close ER (Rd m) (Set.mem_univ (K (s, some (b, s, j)))) (fun h => h) (R := 0) (duties_self m s b j))

theorem point_last (j : Fin 8) (hj7 : j.val = 7) (hij : (i 0).val = j.val) (h1 : ¬ k0_cond1 i = 1#1) (h2 : k0_cond2 i = 1#1) (c : Dev nD) (X) {Q : PUnit → sProp 𝕄} :
    iprop(phiM m c j.val ∗ (∃ W, owes (c : Thread nD τ) (Orest c 1) W) ∗ owns (c : Thread nD τ) xM fullShare (xblk m c j) ∗ owns (c : Thread nD τ) oM fullShare X)
      ⊢ iprop(((phiZ m c ∗ (∃ W, owes (c : Thread nD τ) 0 W) ∗ owns (c : Thread nD τ) xM fullShare (xblk m c j) ∗ owns (c : Thread nD τ) oM fullShare (outAt m)) -∗ Q ⟨⟩)
          -∗ wpc c (cc0__fused_body i xM hx oM ho commM (Memref.isWhole_whole _) cc0_scratch1 cc0_scratch2) Q) := by
  unfold phiM known
  rw [hi_step j]
  unfold stepR posns
  rw [over_all c]
  iintro ⟨⟨⟨⟨%K, #HR⟩, #Hlev⟩, ⟨Hpos, Hself⟩, Hrc, Hz, ⟨⟨⟨%f, Hp⟩, Ht⟩, -⟩, Hds⟩, HO, Hx, Hout⟩ Hk
  iapply (local_step m i xM hx oM ho c j hij f) $$ [Hp Hx]
  · isplitl [Hp]; · iexact Hp
    iexact Hx
  iintro ⟨Hp, Hx⟩
  unfold rest
  rw [meet_later i h1]
  rw [show ∀ k : PUnit → PP F, (Prog.ret ⟨⟩ : PP F).bind k = k ⟨⟩ from fun _ => rfl]
  rw [show ∀ p : PP F, p.bind = (p >>= ·) from fun _ => rfl, wpc_bind]
  iapply (sends_step m i xM hx oM ho K c j 0 hij hj7) $$ [Hp Ht HO]
  · isplitr; · iexact HR
    isplitl [Hp]; · iexact Hp
    isplitl [Ht]; · iexact Ht
    iexact HO
  iintro ⟨Hd, HO⟩
  unfold after41
  rw [dif_pos h2, show ∀ p : PP F, p.bind = (p >>= ·) from fun _ => rfl, wpc_bind]
  ihave Hds := (Entails.of_eq (show iprop(stepD c j ∗ bigSep (lo j.val) (stepD c))
      = (bigSep (peers c) fun p => bigSep Finset.univ fun j => cred (tallyAt (cell c (some (false, p, j))) () N) : sProp 𝕄) from
    (lo_step j (stepD c)).symm.trans (by rw [hj7, lo_all]; unfold stepD; rw [← bigSep_peers_comm]))) $$ [Hd Hds]
  · isplitl [Hd]; · iexact Hd
    iexact Hds
  ihave HW := (waiting_start m c) $$ [HO Hds Hrc Hpos]
  · isplitl [HO]; · iexact HO
    isplitr [Hpos]
    · iapply (Entails.of_eq (over_KS c fun k => cred (tallyAt (cell c (some k)) () N)).symm)
      isplitl [Hds]; · iexact Hds
      unfold rcreds; iexact Hrc
    iexact Hpos
  iapply (finish_step m i xM hx oM ho K c _ h2 X) $$ [HW Hout]
  · isplitr; · iexact HR
    isplitl [HW]; · iexact HW
    iexact Hout
  iintro ⟨HO, Hzk, Hc, Hout⟩
  imod (close_self m K c) $$ [Hself] with Hzs
  · isplitr; · iexact HR
    iexact Hself
  iapply (ret_two c)
  iapply Hk
  unfold phiZ
  rw [over_all c]
  isplitl [Hc Hzk Hzs Hz]
  · isplitl [Hc]; · iexact Hc
    isplitl [Hzk Hzs]
    · isplitl [Hzk]; · iexact Hzk
      iexact Hzs
    iexact Hz
  isplitl [HO]; · iexact HO
  isplitl [Hx]; · iexact Hx
  iexact Hout

end Cert.TopK

end
-- ==== Proof.Oblig.lean ====
/-
# The body of the pipeline

The proof data of the one pipeline, and that the body takes what a device holds before a point to what it holds after it.
-/
module

public import proofs.«01_k».proof.Proof.Point

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The proof data: the arrays as launched, each block of rows left as it is, the result written at the last point. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => xblk m c (Fin.cast N_0 t)
    | ⟨1, _⟩ => outAt m
  Φ t := phi m c t.val
  q _ := fullShare
  owed t := owedAt c t.val

theorem fetch_x (t : Fin cfg0.N) : (cfg0.win (0 : Fin 2)).fetch t = true := fetch0_0 t

theorem before_x (c : Dev nD) (t : Fin cfg0.N) (d) : (dats m ρ 0 c).before (0 : Fin 2) t d = xblk m c (Fin.cast N_0 t) := by
  rw [(dats m ρ 0 c).before_fetched (0 : Fin 2) t (fetch_x t) d]
  rfl

theorem coords_val (t : Fin cfg0.N) : ((grid0.coords t) 0).val = t.val := by revert t; decide
theorem cond1_zero (t : Fin cfg0.N) : Iff (k0_cond1 (grid0.coords t) = 1#1) (t.val = 0) := by revert t; decide
theorem cond2_last (t : Fin cfg0.N) : Iff (k0_cond2 (grid0.coords t) = 1#1) (t.val = 7) := by revert t; decide
theorem flush_last (t : Fin cfg0.N) : (cfg0.win (1 : Fin 2)).flush t = decide (t.val = 7) := by revert t; decide
theorem idle_x (t : Fin cfg0.N) : cfg0.idle (0 : Fin 2) (cfg0.grid.coords t) = false := rfl
theorem idle_out (t : Fin cfg0.N) : cfg0.idle (1 : Fin 2) (cfg0.grid.coords t) = !decide (t.val = 7) := by revert t; decide

theorem owed_in (c : Dev nD) (t : Fin (cfg0.N + 1)) (ι : Unit) (W) (h : (dats m ρ 0 c).owed t = W) :
    (dats m ρ 0 c).owesAt ι t ⊢ (iprop(∃ V, owes (c : Thread nD τ) W V) : sProp 𝕄) := by
  unfold Dat.owesAt Pipeline.owesWithin
  rw [h]
  iintro ⟨%V, -, H⟩
  iexists V; iexact H
theorem owed_out (c : Dev nD) (t : Fin (cfg0.N + 1)) (ι : Unit) (W) (h : (dats m ρ 0 c).owed t = W) :
    (iprop(∃ V, owes (c : Thread nD τ) W V) : sProp 𝕄) ⊢ (dats m ρ 0 c).owesAt ι t := by
  unfold Dat.owesAt Pipeline.owesWithin
  rw [h]
  iintro ⟨%V, H⟩
  iexists V
  isplitr; · ipureintro; exact fun _ _ => Or.inl trivial
  iexact H

theorem phi_first (c : Dev nD) : phi m c 0 = phiA m c := if_pos rfl
theorem phi_between (c : Dev nD) {n : ℕ} (h0 : n ≠ 0) (h8 : n < 8) : phi m c n = phiM m c n := by unfold phi; rw [if_neg h0, if_pos h8]
theorem phi_last (c : Dev nD) : phi m c 8 = phiZ m c := by unfold phi; rw [if_neg (by decide), if_neg (by decide)]

abbrev xAt (t : Fin cfg0.N) : Memref sig .tc .vmem S128x8192 .f32 := win0_0.stage (cfg0.slots t 0)
abbrev oAt (t : Fin cfg0.N) : Memref sig .tc .vmem S1024x32 .f32 := win0_1.stage (cfg0.slots t 1)
abbrev bodyP (t : Fin cfg0.N) : PP F := cc0__fused_body (grid0.coords t) (xAt t) (hstage0_0 ((cfg0.slots t 0).cast nbuf0_0)) (oAt t) (hstage0_1 ((cfg0.slots t 1).cast nbuf0_1))
  commM (Memref.isWhole_whole _) cc0_scratch1 cc0_scratch2

/-- What the body gets at point `t`, and what it leaves. -/
def preAt (c : Dev nD) (t : Fin cfg0.N) : sProp 𝕄 :=
  iprop((dats m ρ 0 c).Φ t.castSucc ∗ (dats m ρ 0 c).owesAt () t.castSucc
    ∗ (∃ d, owns (c : Thread nD τ) (xAt t) fullShare ((dats m ρ 0 c).before (0 : Fin 2) t d))
    ∗ (∃ d, owns (c : Thread nD τ) (oAt t) fullShare ((dats m ρ 0 c).before (1 : Fin 2) t d)))
def postAt (c : Dev nD) (t : Fin cfg0.N) : sProp 𝕄 :=
  iprop((dats m ρ 0 c).Φ t.succ ∗ (dats m ρ 0 c).owesAt () t.succ
    ∗ owns (c : Thread nD τ) (xAt t) fullShare (xblk m c (Fin.cast N_0 t))
    ∗ (if t.val = 7 then owns (c : Thread nD τ) (oAt t) fullShare (outAt m)
        else iprop(∃ d, owns (c : Thread nD τ) (oAt t) fullShare ((dats m ρ 0 c).before (1 : Fin 2) t d))))

theorem body_at (c : Dev nD) (t : Fin cfg0.N) : preAt m ρ c t ⊢ wpc c (bodyP t) fun _ => postAt m ρ c t := by
  have h8 : t.val < 8 := lt_of_lt_of_eq t.isLt N_0
  unfold preAt postAt
  rw [show (dats m ρ 0 c).Φ t.castSucc = phi m c t.val from rfl, show (dats m ρ 0 c).Φ t.succ = phi m c (t.val + 1) from rfl]
  by_cases h0 : t.val = 0
  · have hj : (Fin.cast N_0 t : Fin 8) = 0 := Fin.ext h0
    rw [h0, phi_first, phi_between m c (n := 0 + 1) (by decide) (by decide), if_neg (by decide), hj]
    iintro ⟨HP, HO, ⟨%d, Hx⟩, Ho⟩
    rw [before_x, hj]
    ihave HO := (owed_in m ρ c t.castSucc () (O₀ c) (if_pos h0)) $$ HO
    iapply (point_first m (grid0.coords t) (xAt t) _ (oAt t) _ ((coords_val t).trans h0) ((cond1_zero t).mpr h0) (fun h => by have := (cond2_last t).mp h; omega) c) $$ [HP HO Hx]
    · isplitl [HP]; · iexact HP
      isplitl [HO]; · iexact HO
      iexact Hx
    iintro ⟨HP, HO, Hx⟩
    ihave HO := (owed_out m ρ c t.succ () (Orest c 7) (by show owedAt c (t.val + 1) = _; rw [h0]; rfl)) $$ HO
    isplitl [HP]; · iexact HP
    isplitl [HO]; · iexact HO
    isplitl [Hx]; · iexact Hx
    iexact Ho
  by_cases h7 : t.val = 7
  · rw [h7, phi_between m c (n := 7) (by decide) (by decide), show (7 + 1 : ℕ) = 8 from rfl, phi_last, if_pos rfl]
    iintro ⟨HP, HO, ⟨%d, Hx⟩, ⟨%d', Ho⟩⟩
    rw [before_x]
    ihave HO := (owed_in m ρ c t.castSucc () (Orest c 1) (by show owedAt c t.val = _; rw [h7]; rfl)) $$ HO
    iapply (point_last m (grid0.coords t) (xAt t) _ (oAt t) _ (Fin.cast N_0 t) h7 (coords_val t) (fun h => h0 ((cond1_zero t).mp h)) ((cond2_last t).mpr h7) c _) $$ [HP HO Hx Ho]
    · isplitl [HP]
      · rw [show (Fin.cast N_0 t : Fin 8).val = 7 from h7]; iexact HP
      isplitl [HO]; · iexact HO
      isplitl [Hx]; · iexact Hx
      iexact Ho
    iintro ⟨HP, HO, Hx, Ho⟩
    ihave HO := (owed_out m ρ c t.succ () 0 (by show owedAt c (t.val + 1) = _; rw [h7]; rfl)) $$ HO
    isplitl [HP]; · iexact HP
    isplitl [HO]; · iexact HO
    isplitl [Hx]; · iexact Hx
    iexact Ho
  · rw [phi_between m c h0 h8, phi_between m c (n := t.val + 1) (by omega) (by omega), if_neg h7]
    iintro ⟨HP, HO, ⟨%d, Hx⟩, Ho⟩
    rw [before_x]
    ihave HO := (owed_in m ρ c t.castSucc () (Orest c (7 - t.val + 1)) (by
      show owedAt c t.val = _
      unfold owedAt; rw [if_neg h0, show 8 - t.val = 7 - t.val + 1 by omega])) $$ HO
    iapply (point_middle m (grid0.coords t) (xAt t) _ (oAt t) _ (Fin.cast N_0 t) (Nat.pos_of_ne_zero h0) (by show t.val < 7; omega) (coords_val t)
      (fun h => h0 ((cond1_zero t).mp h)) (fun h => h7 ((cond2_last t).mp h)) c (7 - t.val) (by show t.val + _ = 7; omega)) $$ [HP HO Hx]
    · isplitl [HP]; · iexact HP
      isplitl [HO]; · iexact HO
      iexact Hx
    iintro ⟨HP, HO, Hx⟩
    ihave HO := (owed_out m ρ c t.succ () (Orest c (7 - t.val)) (by
      show owedAt c (t.val + 1) = _
      unfold owedAt; rw [if_neg (by omega), show 8 - (t.val + 1) = 7 - t.val by omega])) $$ HO
    isplitl [HP]; · iexact HP
    isplitl [HO]; · iexact HO
    isplitl [Hx]; · iexact Hx
    iexact Ho

theorem body_obligation (c : Dev nD) : BodyObligation (dats (F := F) m ρ 0 c) (defs₀ (F := F)) 𝒱₀ () Set.univ := fun t => by
  rw [bigSep_W0, bigSep_W0]
  dsimp only
  rw [show idle0 1 (grid0.coords t) = _ from idle_out t, show (win0 1).flush t = _ from flush_last t]
  have h := body_at m ρ c t
  unfold preAt postAt at h
  by_cases h7 : t.val = 7
  · rw [if_pos h7] at h
    rw [decide_eq_true h7]
    exact h
  · rw [if_neg h7] at h
    rw [decide_eq_false h7]
    exact h

end Cert.TopK

end
-- ==== Proof.Launch.lean ====
/-
# The launch

The semaphores' invariants are allocated, the right to make each payment goes to the device that makes it, and each device
gets the credit for what the others owe it. Then `run_main`: every run of the program ends, with the result array of every
device at `outAt`, the argument unchanged and every counter at zero.
-/
module

public import proofs.«01_k».proof.Proof.Oblig
public import Idealize.ShloMosaic.Lib.Pipeline.CollectiveSegs

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and rights at the launch -/

theorem stage_other : ∀ (w : Fin cfg0.W) (s : Fin (cfg0.win w).nbuf), decode (.dma ((cfg0.win w).sem s)) = none := by decide

theorem ownSemFacts : Pipeline.OwnSemFacts cfg0.spec osem where
  isScoped := by decide
  inj := fun a b h => Option.some.inj (csem_injective (a₁ := some a) (a₂ := some b) h)
  disj := fun k w s h => by
    have h1 : decode (csem (some k)) = some (some k) := decode_csem (some k)
    have h2 : decode (.dma ((cfg0.win w).sem s)) = none := stage_other w s
    rw [show csem (some k) = _ from h, h2] at h1
    cases h1

theorem share_eq (c : Dev nD) (w : Fin cfg0.W) : (dats m ρ 0 c).share w = fullShare := by unfold Dat.share; split <;> rfl

theorem cell_injective : Function.Injective fun ck : Dev nD × CK => cell ck.1 ck.2 := by
  rintro ⟨c, k⟩ ⟨c', k'⟩ h
  have h1 : c = c' := congrArg (fun g : GSem nD τ sig => g.1.1) h
  subst h1
  exact Prod.ext rfl (csem_injective (congrArg Prod.snd h))
def allCells : Finset (GSem nD τ sig) := Finset.univ.map ⟨_, cell_injective⟩

/-- The right to pay `d`'s duty at a semaphore of `c`: the barrier, or one of the two of a part. -/
abbrev tokCell (x : Dev nD × Dev nD × Option (Bool × Fin 8)) : CK := x.2.2.map fun bj => (bj.1, x.2.1, bj.2)
abbrev tokOf (x : Dev nD × Dev nD × Option (Bool × Fin 8)) : GSem nD τ sig × ℕ × Dev nD := (cell x.1 (tokCell x), 0, x.2.1)
theorem tokOf_injective : Function.Injective tokOf := by
  rintro ⟨c, d, o⟩ ⟨c', d', o'⟩ h
  have h1 : d = d' := congrArg (fun x : GSem nD τ sig × ℕ × Dev nD => x.2.2) h
  subst h1
  have h2 := cell_injective (a₁ := (c, tokCell (c, d, o))) (a₂ := (c', tokCell (c', d, o'))) (congrArg Prod.fst h)
  have h3 : c = c' := congrArg Prod.fst h2
  subst h3
  have h4 : tokCell (c, d, o) = tokCell (c, d, o') := congrArg Prod.snd h2
  rcases o with _ | ⟨b, j⟩ <;> rcases o' with _ | ⟨b', j'⟩
  · rfl
  · cases h4
  · cases h4
  · cases h4; rfl
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The rights at the semaphores of device `c`. -/
def made (c : Dev nD) : sProp 𝕄 :=
  bigSep Finset.univ fun d : Dev nD => iprop(dutyTok ER (barC c) 0 d
    ∗ bigSep Finset.univ fun j : Fin 8 => iprop(dutyTok ER (sendC c d j) 0 d ∗ dutyTok ER (recvC c d j) 0 d))

def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ made c)

omit [FloatOps F] in
theorem bigSep_opt {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by ext x; cases x <;> simp,
    bigSep_ins (by simp), bigSep_map]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => made c := by
    unfold allToks; rw [bigSep_map, bigSep_univ_prod]
    refine bigSep_congr fun c _ => ?_
    rw [bigSep_univ_prod]; unfold made
    refine bigSep_congr fun d _ => ?_
    rw [bigSep_opt, bigSep_univ_prod, bigSep_two, bigSep_sep']; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
theorem ownSems_eq (c : Dev nD) : (Pipeline.ownSems0 (Ix := Unit) (Name := ℕ) (U := UU) (Lvl := ℕ) (Val := Elt F) (τ := τ) osem c : sProp 𝕄)
    = bigSep Finset.univ fun k : Bool × Fin 4 × Fin 8 => semVal (cell c (some k)) 0 := rfl
omit [FloatOps F] in
theorem unscopedSems_eq (c : Dev nD) : (unscopedSems0 c : sProp 𝕄) = semVal (barC c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ made c) := by
  unfold G
  rw [ownSems_eq, unscopedSems_eq]
  iintro ⟨Hos, Hus, Hst, Hat, Htok⟩
  ihave Hv := (Entails.of_eq (bigSep_opt fun k : CK => (semVal (cell c k) 0 : sProp 𝕄)).symm) $$ [Hos Hus]
  · isplitl [Hus] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- What the launch leaves with device `c`: its positions and the rights it uses. -/
def kept (c : Dev nD) : sProp 𝕄 :=
  iprop((posns c ∗ atPos ER (barC c) 0 ∅ 0) ∗ (bigSep (peers c) fun p => dutyTok ER (barC p) 0 c) ∗ bigSep Finset.univ (toks c))
def G' (c : Dev nD) : sProp 𝕄 := iprop((∃ K, records m K) ∗ kept c)

omit [FloatOps F] in
/-- The rights dealt to the devices that use them. -/
theorem toks_dealt : (bigSep Finset.univ fun c : Dev nD => (made c : sProp 𝕄))
    ⊢ bigSep Finset.univ fun c : Dev nD => iprop((bigSep (peers c) fun p => dutyTok ER (barC p) 0 c) ∗ bigSep Finset.univ (toks c)) := by
  unfold made toks
  simp only [bigSep_sep']
  rw [bigSep_univ_comm fun (c d : Dev nD) => (dutyTok ER (barC c) 0 d : sProp 𝕄),
    bigSep_univ_comm fun (c d : Dev nD) => (bigSep Finset.univ fun j : Fin 8 => dutyTok ER (recvC c d j) 0 d : sProp 𝕄)]
  iintro ⟨H1, H2, H3⟩
  isplitl [H1]
  · iapply (show (bigSep Finset.univ fun c : Dev nD => bigSep Finset.univ fun p : Dev nD => (dutyTok ER (barC p) 0 c : sProp 𝕄))
      ⊢ bigSep Finset.univ fun c : Dev nD => bigSep (peers c) fun p => dutyTok ER (barC p) 0 c from bigSep_mono fun c _ => bigSep_subset (Finset.subset_univ _))
    iexact H1
  isplitl [H2]
  · iapply (show (bigSep Finset.univ fun c : Dev nD => bigSep Finset.univ fun p : Dev nD => bigSep Finset.univ fun j : Fin 8 => (dutyTok ER (sendC c p j) 0 p : sProp 𝕄))
      ⊢ bigSep Finset.univ fun c : Dev nD => bigSep Finset.univ fun j : Fin 8 => bigSep (peers c) fun p => dutyTok ER (sendC c p j) 0 p from
        bigSep_mono fun c _ => (bigSep_subset (Finset.subset_univ (peers c))).trans (Entails.of_eq (bigSep_peers_comm c Finset.univ _)))
    iexact H2
  iapply (show (bigSep Finset.univ fun c : Dev nD => bigSep Finset.univ fun p : Dev nD => bigSep Finset.univ fun j : Fin 8 => (dutyTok ER (recvC p c j) 0 c : sProp 𝕄))
    ⊢ bigSep Finset.univ fun c : Dev nD => bigSep Finset.univ fun j : Fin 8 => bigSep (peers c) fun p => dutyTok ER (recvC p c j) 0 c from
      bigSep_mono fun c _ => (bigSep_subset (Finset.subset_univ (peers c))).trans (Entails.of_eq (bigSep_peers_comm c Finset.univ _)))
  iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem kept_intro (c : Dev nD) :
    iprop((bigSep Finset.univ fun k : CK => atPos ER (cell c k) 0 ∅ 0) ∗ ((bigSep (peers c) fun p => dutyTok ER (barC p) 0 c) ∗ bigSep Finset.univ (toks c))) ⊢ (kept c : sProp 𝕄) := by
  rw [bigSep_opt]
  unfold kept posns
  iintro ⟨⟨H1, H2⟩, H3⟩
  isplitr [H3]
  · isplitl [H2] <;> iassumption
  iexact H3

theorem deal_intro (K : Dev nD × CK → ℕ) (c : Dev nD) : iprop(records m K ∗ kept c) ⊢ (G' m c : sProp 𝕄) := by
  unfold G'
  iintro ⟨#H, Hk⟩
  isplitr; · iexists K; iexact H
  iexact Hk

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ made c) : sProp 𝕄)
      ⊢ bigSep Finset.univ (G' m) := by
  rw [bigSep_sep', bigSep_sep', ← bigSep_univ_prod (fun ck : Dev nD × CK => iprop(∃ κ : ℕ, cellInv ER (Rd m) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (cell ck.1 ck.2) : sProp 𝕄))) $$ HI
  icases HK with ⟨%K, #HI⟩
  ihave Htk := (toks_dealt (F := F)) $$ Htok
  iapply (with_persistent (R := records m K) fun c _ => deal_intro m K c)
  isplitr
  · unfold records; isplitl; · iexact HI
    iexact HR
  · iapply ((Entails.of_eq (bigSep_sep' Finset.univ (fun c : Dev nD => bigSep Finset.univ fun k : CK => (atPos ER (cell c k) 0 ∅ 0 : sProp 𝕄))
        (fun c => iprop((bigSep (peers c) fun p => dutyTok ER (barC p) 0 c) ∗ bigSep Finset.univ (toks c)))).symm).trans
      (bigSep_mono fun c _ => kept_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

theorem recv_inj {c s d p : Dev nD} {j j' : Fin 8} (h : recvC c s j = recvC p d j') : c = p ∧ s = d ∧ j = j' := by
  have h := cell_injective (a₁ := (c, some (true, s, j))) (a₂ := (p, some (true, d, j'))) h
  cases h; exact ⟨rfl, rfl, rfl⟩
theorem bar_inj {c p : Dev nD} (h : barC c = barC p) : c = p := congrArg (fun g : GSem nD τ sig => g.1.1) h
theorem recv_bar {c s p : Dev nD} {j : Fin 8} (h : recvC c s j = barC p) : False := by
  have h := cell_injective (a₁ := (c, some (true, s, j))) (a₂ := (p, none)) h
  cases h

theorem tally_recv (c s d p : Dev nD) (j j' : Fin 8) (n : ℕ) :
    (tallyAt (recvC p d j') () n : CellTallies nD τ sig Unit) (recvC c s j) () = if c = p ∧ s = d ∧ j = j' then n else 0 := by
  rw [tallyAt_apply]
  by_cases h : c = p ∧ s = d ∧ j = j'
  · obtain ⟨rfl, rfl, rfl⟩ := h
    rw [if_pos ⟨rfl, rfl⟩, if_pos ⟨rfl, rfl, rfl⟩]
  · rw [if_neg (fun e => h (recv_inj e.1)), if_neg h]
theorem tally_bar (c p : Dev nD) (n : ℕ) : (tallyAt (barC p) () n : CellTallies nD τ sig Unit) (barC c) () = if c = p then n else 0 := by
  rw [tallyAt_apply]
  by_cases h : c = p
  · subst h; rw [if_pos ⟨rfl, rfl⟩, if_pos rfl]
  · rw [if_neg (fun e => h (bar_inj e.1)), if_neg h]
theorem tally_bar_recv (c s p : Dev nD) (j : Fin 8) (n : ℕ) : (tallyAt (barC p) () n : CellTallies nD τ sig Unit) (recvC c s j) () = 0 := by
  rw [tallyAt_apply, if_neg (fun e => recv_bar e.1)]

theorem place (c d : Dev nD) : (if c = nb d 3 then 1 else 0) + (if c = nb d 2 then 1 else 0) + (if c = nb d 1 then 1 else 0) = if c ≠ d then 1 else 0 := by
  revert c d; decide

theorem place_n (c d : Dev nD) (n : ℕ) (P : Prop) [Decidable P] :
    (if c = nb d 3 ∧ P then n else 0) + ((if c = nb d 2 ∧ P then n else 0) + (if c = nb d 1 ∧ P then n else 0)) = if c ≠ d ∧ P then n else 0 := by
  by_cases hP : P
  · simp only [hP, and_true]
    have h := congrArg (· * n) (place c d)
    simpa only [Nat.add_mul, ite_mul, Nat.one_mul, Nat.zero_mul, Nat.add_assoc] using h
  · simp only [hP, and_false, if_false]

theorem Orest_recv (c s d : Dev nD) (j : Fin 8) : ∀ k, k ≤ 8 → Orest d k (recvC c s j) () = if c ≠ d ∧ s = d ∧ 8 - k ≤ j.val then N else 0
  | 0, _ => by
    have := j.isLt
    rw [if_neg (fun h => by omega)]; rfl
  | k + 1, hk => by
    unfold Orest
    simp only [Pi.add_apply, Finsupp.add_apply]
    rw [Orest_recv c s d j k (by omega), tally_recv, tally_recv, tally_recv, Nat.add_assoc, Nat.add_assoc, place_n]
    by_cases h1 : c ≠ d ∧ s = d
    · obtain ⟨h1, h2⟩ := h1
      by_cases h3 : j.val = 7 - k
      · rw [if_neg (fun h => by omega), if_pos ⟨h1, h2, Fin.ext h3⟩, if_pos ⟨h1, h2, by omega⟩, Nat.zero_add]
      · rw [if_neg (c := c ≠ d ∧ s = d ∧ j = _) (fun h => h3 (congrArg Fin.val h.2.2)), Nat.add_zero]
        by_cases h4 : 8 - k ≤ j.val
        · rw [if_pos ⟨h1, h2, h4⟩, if_pos ⟨h1, h2, by omega⟩]
        · rw [if_neg (fun h => h4 h.2.2), if_neg (fun h => by omega)]
    · rw [if_neg (fun h => h1 ⟨h.1, h.2.1⟩), if_neg (fun h => h1 ⟨h.1, h.2.1⟩), if_neg (fun h => h1 ⟨h.1, h.2.1⟩)]

theorem owed_recv (c s d : Dev nD) (hs : s ≠ c) (j : Fin 8) : O₀ d (recvC c s j) () = if d = s then N else 0 := by
  unfold O₀
  simp only [Pi.add_apply, Finsupp.add_apply]
  rw [tally_bar_recv, tally_bar_recv, tally_bar_recv, Orest_recv c s d j 8 (le_refl _)]
  by_cases h : d = s
  · subst h; rw [if_pos ⟨Ne.symm hs, rfl, by omega⟩, if_pos rfl]; rfl
  · rw [if_neg (fun e => h e.2.1.symm), if_neg h]

theorem owed_bar (c d : Dev nD) : O₀ d (barC c) () = if c ≠ d then 1 else 0 := by
  unfold O₀
  simp only [Pi.add_apply, Finsupp.add_apply]
  have h : Orest d 8 (barC c) () = 0 := by
    by_contra h
    obtain ⟨p, j, e⟩ := Orest_pos 8 (Nat.pos_of_ne_zero h)
    exact recv_bar e.symm
  rw [tally_bar, tally_bar, tally_bar, h, Nat.zero_add, place]

omit [FloatOps F] in
theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide

omit [FloatOps F] in
theorem launch_recv (c s : Dev nD) (hs : s ≠ c) (j : Fin 8) :
    tallyOn (recvC c s j) (launchCredit (Pipeline.owing O₀) 0 (recvC c s j)) = (tallyAt (recvC c s j) () N : CellTallies nD τ sig Unit) := by
  unfold tallyAt; refine congrArg _ (Finsupp.ext fun u => ?_); cases u
  rw [Pipeline.launchCredit_owing, Finsupp.single_eq_same, Finset.sum_congr rfl fun d _ => owed_recv c s d hs j, Finset.sum_ite_eq' Finset.univ s fun _ => N,
    if_pos (Finset.mem_univ _)]

omit [FloatOps F] in
theorem creds (c : Dev nD) :
    (Pipeline.launchCred O₀ c : sProp 𝕄) ⊢ iprop(cred (tallyAt (barC c) () 3) ∗ rcreds c) := by
  unfold Pipeline.launchCred
  rw [bigSep_univ_at _ (SemLoc.reg barS), launch_bar]
  refine sep_mono_right ?_
  have hsub : ((peers c ×ˢ (Finset.univ : Finset (Fin 8))).image fun x => csem (some (true, x.1, x.2))) ⊆ Finset.univ.erase (SemLoc.reg barS) := by
    intro x hx
    obtain ⟨⟨s, j⟩, -, rfl⟩ := Finset.mem_image.mp hx
    exact Finset.mem_erase.mpr ⟨fun h => (by cases csem_injective (a₁ := some (true, s, j)) (a₂ := none) h), Finset.mem_univ _⟩
  refine BIBase.Entails.trans (bigSep_subset hsub) ?_
  rw [bigSep_img (fun x : Dev nD × Fin 8 => csem (some (true, x.1, x.2))) (peers c ×ˢ Finset.univ) (by
    rintro ⟨s, j⟩ _ ⟨s', j'⟩ _ h
    cases csem_injective (a₁ := some (true, s, j)) (a₂ := some (true, s', j')) h; rfl), bigSep_pairs]
  unfold rcreds
  exact bigSep_mono fun s hs => bigSep_mono fun j _ => Entails.of_eq (congrArg cred (launch_recv c s (mem_peers.mp hs) j))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' known kept
  iintro ⟨-, Hlev, Hcr, -, HR, ⟨Hpos, Hbar⟩, Htb, Htk⟩
  ihave Hc := (creds (F := F) c) $$ Hcr
  icases Hc with ⟨H1, HN⟩
  imodintro
  isplitl
  · isplitl [HR Hlev]
    · isplitl [HR]; · iexact HR
      iexact Hlev
    isplitl [Hpos]; · iexact Hpos
    isplitl [HN]; · iexact HN
    isplitl [Hbar]; · iexact Hbar
    isplitl [H1]; · iexact H1
    isplitl [Htb]; · iexact Htb
    iexact Htk
  · iempintro

theorem phi_enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi m c 0 from rfl, phi_first, scopedRest0_eq]
  unfold phiA comm
  iintro ⟨Hs, -, Hr⟩
  isplitl [Hs]; · iexact Hs
  iexact Hr

theorem phi_leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phi m c 8 from congrArg (phi m c) N_0, phi_last, scopedRest0_eq, ownSems_eq, unscopedSems_eq]
  unfold phiZ comm
  iintro ⟨Hr, Hz, HzB⟩
  isplitl [HzB]; · iexact HzB
  isplitl [Hz]; · iexact Hz
  iexists (final m); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_other w s) _ (by
      show owedAt c t.val = _ ∨ ∃ k, owedAt c t.val = _
      unfold owedAt
      by_cases h : t.val = 0
      · rw [if_pos h]; exact Or.inl rfl
      · rw [if_neg h]; exact Or.inr ⟨_, rfl⟩)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run from a memory with all counters at zero ends; each array is then at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_enter m ρ) (hout := phi_leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final arrays -/

theorem final_x (c : Dev nD) : finalA m ρ c (0 : Fin 2) = m ((c : Thread nD τ).loc main_arg0) :=
  (dats (F := F) m ρ 0 c).arrAt_in (0 : Fin 2) rfl _

end Cert.TopK

end
-- ==== Proof.Frames.lean ====
/-
# What the run says of the arrays

The result array of every device ends at `outAt`; both frames of the kernel.
-/
module

public import proofs.«01_k».proof.Proof.Launch
public import proofs.«01_k».proof.Defs
public import proofs.«01_k».proof.Proof.Gen.Kernel
public import Idealize.ShloMosaic.Lib.Pipeline.Value

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem index_out (t : Fin cfg0.N) (a : Fin 2) : win0_1.index t a = 0 := by revert t a; decide

theorem rect_out (t : Fin cfg0.N) (y : S1024x32.Idx) : (win0_1.rect t).emb y = y :=
  funext fun a => Fin.ext (win0_1.rect_emb_val_of_index_zero t a (index_out t a) y)

theorem read_out (t : Fin cfg0.N) (X : S1024x32.Idx → Elt F .f32) : (win0_1.blk t).view.read (Elt F) X = X :=
  funext fun y => congrArg X (rect_out t y)

theorem set_out (t : Fin cfg0.N) (y : S1024x32.Idx) : y ∈ (win0_1.blk t).view.set := by
  rw [show (win0_1.blk t).view.set = (win0_1.rect t).set from View.set_slice_whole _ _]
  rw [← Rect.map_emb_univ]
  exact Finset.mem_map.mpr ⟨y, Finset.mem_univ _, rect_out t y⟩

theorem final_out (c : Dev nD) : finalA m ρ c (1 : Fin 2) = outAt m :=
  (dats (F := F) m ρ 0 c).arrAt_eq_of_cover (1 : Fin 2) (outAt m)
    (fun t _ => (read_out t (outAt m)).symm)
    (fun i => ⟨⟨7, by decide⟩, by rw [flush_last]; rfl, set_out _ i⟩)

/-- Every run of the kernel: the result, the argument, the counters. -/
theorem run_kernel : θ_run defs (onTc (τ := τ) (main (F := F))) (s₀ m ρ)
    (fun r => (∀ c : Dev nD, r.2.mem ((c.tc : Thread nD τ).loc main_v1) = outAt m ∧ r.2.mem ((c.tc : Thread nD τ).loc main_arg0) = m ((c.tc : Thread nD τ).loc main_arg0))
      ∧ r.2.sem = fun _ => 0) :=
  (θ_run defs _ _).mono (fun _ h => ⟨fun c => ⟨(h.1 c (1 : Fin 2)).trans (final_out m ρ c), (h.1 c (0 : Fin 2)).trans (final_x m ρ c)⟩, h.2⟩) (run_main m ρ)

/-- The frame part of it. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_kernel m ρ)

theorem frame_ideal : Cert.quiescent_KernelIdeal := fun m ρ _ => run_frame (F := Ideal) m ρ

/-- The two programs have the same text, so their body tables over float bits are one table. -/
theorem body_table_bits : (Cert.Kernel.defs₀ (F := Bits)) = (Cert.KernelIdeal.defs₀ (F := Bits)) := by
  unfold Cert.Kernel.defs₀ Cert.KernelIdeal.defs₀
  refine congrArg Defs.onTc ?_
  funext l x
  match l, x with
  | 0, (t, s) => rfl

theorem defs_bits : (Cert.Kernel.defs (F := Bits)) = (Cert.KernelIdeal.defs (F := Bits)) := by
  unfold Cert.Kernel.defs Cert.KernelIdeal.defs
  exact congrArg (Pipeline.defs (Cert.KernelIdeal.pcfgs (F := Bits))) body_table_bits

/-- The kernel over float bits runs to the end, leaves its input as it was and every semaphore at zero. -/
theorem frame_bits : Cert.quiescent_Kernel := fun m ρ _ => by
  have h := run_frame (F := Bits) m ρ
  rw [← defs_bits] at h
  exact h

end Cert.TopK

end
-- ==== Proof.Refer.lean ====
module

public import proofs.«01_k».proof.Defs
public import proofs.«01_k».proof.Proof.Gen.ReferenceIdeal.Run
public import Idealize.ShloMosaic.Adequacy
public import Idealize.ShloMosaic.Init
public import Idealize.ShloMosaic.Lib.Claim

@[expose] public section

noncomputable section

namespace Cert.TopK

open Idealize.ShloMosaic Idealize.SL.Sem

/-- The reference runs to the end and leaves its argument as it was; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.TopK

end
-- ==== Proof.Met.lean ====
/-
# The side conditions of the mask's operations
-/
module

public import proofs.«01_k».proof.On_rows_met
public import Idealize.ShloMosaic.Lib.Decide

@[expose] public section

noncomputable section

namespace Cert.TopK

open Cert.On_rows_met Idealize.ShloMosaic

instance met : Cert.On_rows_met.Facts where
  slices_S1024x32768_S1024x32_0_0 := by decide
  bcast_S_S1024x32 := by decide
  shapeCasts_S1024x32_S1024x32x1 := by decide
  bcast_S_S1024x32x1 := by decide
  bcast_S1_S1x1x1_2 := by decide
  bcast_S1x1x1_S1024x32x1_0_1_2 := by decide
  reducesTo_S1024x32x1_S1024x32_d2 := by decide
  h_S_ := by decide
  slices_S1024x32_S1024x31_0_1 := by decide
  slices_S1024x32_S1024x31_0_0 := by decide
  reducesTo_S1024x31_S1024_d1 := by decide
  slices_S1024x32_S1024x1_0_31 := by decide
  bcast_S1024x1_S1024x32768_0_1 := by decide
  shapeCasts_S1024x32768_S1024x4x64x128 := by decide
  natLt_1_32 := by decide
  reducesTo_S1024x4x64x128_S1024x4x128_d2 := by decide
  bcast_S_S1024x4x128 := by decide
  reducesTo_S1024x4x128_S1024_d1_2 := by decide
  bcast_S1024_S1024x1_0 := by decide
  bcast_S1024x1_S1024x32_0_1 := by decide
  gather_S1024x32768_S1024x32x1_S1024x32_n_1_0_0_1_2_11_wf := by decide

end Cert.TopK

end
-- ==== Proof.Ranks.lean ====
/-
# The largest distinct values of a finite family

`nth f n` is the value that the kernel computes by taking a maximum, then the maximum of what is strictly below it, and
so on. The theorems say when these are given numbers `a 0 > a 1 > … > a 31`.
-/
module

public import Mathlib.Data.EReal.Basic
public import Mathlib.Data.Finset.Fold
public import Mathlib.Data.Finset.Lattice.Fold
public import Mathlib.Data.Fintype.Card
public import Mathlib.Data.Fintype.EquivFin

@[expose] public section

namespace Cert.TopK

variable {ι : Type} [Fintype ι]

/-- The largest value of a family. -/
noncomputable def big (f : ι → EReal) : EReal := Finset.univ.fold max ⊥ f

/-- The family with the values not below `b` replaced by the filler. -/
noncomputable def cut (f : ι → EReal) (b : EReal) (i : ι) : EReal := if f i < b then f i else ⊥

/-- The `n`-th largest distinct value, counted from zero; minus infinity when there are not so many. -/
noncomputable def nth (f : ι → EReal) : ℕ → EReal
  | 0 => big f
  | n + 1 => big (cut f (nth f n))

theorem big_le {f : ι → EReal} {b : EReal} : big f ≤ b ↔ ∀ i, f i ≤ b := by
  unfold big
  rw [Finset.fold_max_le]
  simp

theorem le_big (f : ι → EReal) (i : ι) : f i ≤ big f := big_le.mp le_rfl i

theorem big_attained {f : ι → EReal} (h : big f ≠ ⊥) : ∃ i, f i = big f := by
  by_contra hc
  have hc := not_exists.mp hc
  have hlt : big f < big f := by
    conv_lhs => unfold big
    rw [Finset.fold_max_lt]
    exact ⟨bot_lt_iff_ne_bot.mpr h, fun i _ => lt_of_le_of_ne (le_big f i) (hc i)⟩
  exact lt_irrefl _ hlt

theorem le_nth_succ {f : ι → EReal} {n : ℕ} {i : ι} (h : f i < nth f n) : f i ≤ nth f (n + 1) := by
  have := le_big (cut f (nth f n)) i
  unfold cut at this
  rw [if_pos h] at this
  exact this

/-- A value `v` of the family is found within four rounds, if at most four members reach it. -/
theorem found_by_count [DecidableEq ι] (h : ι → EReal) (k₀ : ι) (p : ℕ)
    (hfew : (Finset.univ.filter fun k => h k₀ ≤ h k).card ≤ p + 1) : ∃ q, q ≤ p ∧ nth h q = h k₀ := by
  have step : ∀ q, (∃ q', q' ≤ q ∧ nth h q' = h k₀)
      ∨ (h k₀ < nth h q ∧ q + 1 ≤ (Finset.univ.filter fun k => nth h q ≤ h k).card) := by
    intro q
    induction q with
    | zero =>
      rcases eq_or_lt_of_le (le_big h k₀) with e | hlt
      · exact .inl ⟨0, le_rfl, e.symm⟩
      · refine .inr ⟨hlt, ?_⟩
        obtain ⟨i, hi⟩ := big_attained (ne_of_gt (lt_of_le_of_lt bot_le hlt))
        exact Finset.card_pos.mpr ⟨i, Finset.mem_filter.mpr ⟨Finset.mem_univ i, hi.ge⟩⟩
    | succ q ih =>
      rcases ih with ⟨q', hq, e⟩ | ⟨hlt, hc⟩
      · exact .inl ⟨q', hq.trans (Nat.le_succ q), e⟩
      · rcases eq_or_lt_of_le (le_nth_succ hlt) with e | hlt'
        · exact .inl ⟨q + 1, le_rfl, e.symm⟩
        · refine .inr ⟨hlt', ?_⟩
          have hne : nth h (q + 1) ≠ ⊥ := ne_of_gt (lt_of_le_of_lt bot_le hlt')
          obtain ⟨i, hi⟩ := big_attained (f := cut h (nth h q)) hne
          have hi' : cut h (nth h q) i = nth h (q + 1) := hi
          have hcut : h i < nth h q ∧ h i = nth h (q + 1) := by
            unfold cut at hi'
            by_cases hb : h i < nth h q
            · rw [if_pos hb] at hi'; exact ⟨hb, hi'⟩
            · rw [if_neg hb] at hi'; exact absurd hi'.symm hne
          have hnot : i ∉ Finset.univ.filter fun k => nth h q ≤ h k := by
            rw [Finset.mem_filter]; exact fun hm => absurd hm.2 (not_le.mpr hcut.1)
          have hsub : insert i (Finset.univ.filter fun k => nth h q ≤ h k)
              ⊆ Finset.univ.filter fun k => nth h (q + 1) ≤ h k := by
            intro k hk
            rw [Finset.mem_filter]
            refine ⟨Finset.mem_univ k, ?_⟩
            rcases Finset.mem_insert.mp hk with rfl | hk
            · exact hcut.2.ge
            · exact (hcut.2.symm.le.trans hcut.1.le).trans (Finset.mem_filter.mp hk).2
          have := Finset.card_le_card hsub
          rw [Finset.card_insert_of_notMem hnot] at this
          exact (Nat.succ_le_succ hc).trans this
  rcases step p with hf | ⟨hlt, hc⟩
  · exact hf
  · exfalso
    have hnot : k₀ ∉ Finset.univ.filter fun k => nth h p ≤ h k := by
      rw [Finset.mem_filter]; exact fun hm => absurd hm.2 (not_le.mpr hlt)
    have hsub : insert k₀ (Finset.univ.filter fun k => nth h p ≤ h k) ⊆ Finset.univ.filter fun k => h k₀ ≤ h k := by
      intro k hk
      rw [Finset.mem_filter]
      refine ⟨Finset.mem_univ k, ?_⟩
      rcases Finset.mem_insert.mp hk with rfl | hk
      · exact le_rfl
      · exact hlt.le.trans (Finset.mem_filter.mp hk).2
    have := Finset.card_le_card hsub
    rw [Finset.card_insert_of_notMem hnot] at this
    omega

/-- `v` does not lie strictly between two neighbours of `a 0, …, a 31`, nor above `a 0`. -/
def Fits (a : ℕ → EReal) (v : EReal) : Prop := v ≤ a 0 ∧ ∀ n, n < 31 → v < a n → v ≤ a (n + 1)

theorem fits_bot (a : ℕ → EReal) : Fits a ⊥ := ⟨bot_le, fun _ _ _ => bot_le⟩

theorem fits_big {a : ℕ → EReal} {f : ι → EReal} (hf : ∀ i, Fits a (f i)) : Fits a (big f) := by
  by_cases h : big f = ⊥
  · rw [h]; exact fits_bot a
  · obtain ⟨i, hi⟩ := big_attained h
    rw [← hi]; exact hf i

theorem fits_cut {a : ℕ → EReal} {f : ι → EReal} (hf : ∀ i, Fits a (f i)) (b : EReal) (i : ι) : Fits a (cut f b i) := by
  unfold cut
  split
  · exact hf i
  · exact fits_bot a

theorem fits_nth {a : ℕ → EReal} {f : ι → EReal} (hf : ∀ i, Fits a (f i)) (n : ℕ) : Fits a (nth f n) := by
  cases n with
  | zero => exact fits_big hf
  | succ n => exact fits_big (fits_cut hf _)

theorem nth_le {a : ℕ → EReal} {f : ι → EReal} (hf : ∀ i, Fits a (f i)) (n : ℕ) (hn : n < 32) : nth f n ≤ a n := by
  induction n with
  | zero => exact (fits_big hf).1
  | succ n ih =>
    have ih := ih (by omega)
    refine big_le.mpr fun i => ?_
    unfold cut
    split
    · next h => exact (hf i).2 n (by omega) (lt_of_lt_of_le h ih)
    · exact bot_le

/-- A value `a n` of a fitting family is found within the first `n + 1` rounds. -/
theorem found_by_rank {a : ℕ → EReal} {f : ι → EReal} (hf : ∀ i, Fits a (f i)) (n : ℕ) (hn : n < 32) (i₀ : ι)
    (hi : f i₀ = a n) : ∃ q, q ≤ n ∧ nth f q = a n := by
  have step : ∀ q, (∃ q', q' ≤ q ∧ nth f q' = a n) ∨ a n < nth f q := by
    intro q
    induction q with
    | zero =>
      rcases eq_or_lt_of_le (hi ▸ le_big f i₀ : a n ≤ big f) with e | h
      · exact .inl ⟨0, le_rfl, e.symm⟩
      · exact .inr h
    | succ q ih =>
      rcases ih with ⟨q', hq, e⟩ | h
      · exact .inl ⟨q', hq.trans (Nat.le_succ q), e⟩
      · have hle : a n ≤ nth f (q + 1) := by rw [← hi] at h ⊢; exact le_nth_succ h
        rcases eq_or_lt_of_le hle with e | h'
        · exact .inl ⟨q + 1, le_rfl, e.symm⟩
        · exact .inr h'
  rcases step n with h | h
  · exact h
  · exact absurd (nth_le hf n hn) (not_le.mpr h)

/-- A fitting family that contains all of `a 0 > … > a 31` has them as its largest distinct values. -/
theorem nth_eq {a : ℕ → EReal} {f : ι → EReal} (hf : ∀ i, Fits a (f i)) (hdec : ∀ n, n < 31 → a (n + 1) < a n)
    (hin : ∀ n, n < 32 → ∃ i, f i = a n) (n : ℕ) (hn : n < 32) : nth f n = a n := by
  induction n with
  | zero =>
    obtain ⟨i, hi⟩ := hin 0 hn
    exact le_antisymm (nth_le hf 0 hn) (hi ▸ le_big f i)
  | succ n ih =>
    obtain ⟨i, hi⟩ := hin (n + 1) hn
    refine le_antisymm (nth_le hf (n + 1) hn) ?_
    have hlt : f i < nth f n := by rw [hi, ih (by omega)]; exact hdec n (by omega)
    exact hi ▸ le_nth_succ hlt

end Cert.TopK

end
-- ==== Proof.Rounds.lean ====
/-
# The kernel's rounds, read at an index over the extended reals
-/
module

public import proofs.«01_k».proof.Proof.Local
public import proofs.«01_k».proof.Proof.Ranks
public import Idealize.ShloMosaic.Lib.Pointwise
public import Idealize.ShloMosaic.Lib.Pipeline.ValueKit.Tiles

@[expose] public section

set_option maxRecDepth 16384

noncomputable section

namespace Cert.TopK

open Cert.KernelIdeal Cert.KernelIdeal.Gen
open Idealize.ShloMosaic Idealize.SL.Sem

theorem negInf_eq : (negInf : Ideal .f32) = ⊥ := by
  show Ideal.ofBits .f32 0xFF800000#32 = ⊥
  simp [Ideal.ofBits, Ideal.ieee]

/-- Lane `l` of row `r`, in the `k`-th piece. -/
theorem piece_at (x : Vec Ideal S128x8192 .f32) (k : Fin 64) (r : Fin 128) (l : Fin 128) :
    piece x k (ix2 r l) = x (ix2 r ⟨128 * k.val + l.val, by omega⟩) := by
  unfold piece full
  pointwise

theorem topR_at (y : FVec Ideal S128x512 .f32) (r : Fin 128) :
    topR y (ix2 r 0) = big fun q : Fin 512 => y (ix2 r q) := by
  unfold topR
  pointwise
  rfl

theorem lowR_at (y : FVec Ideal S128x512 .f32) (b : FVec Ideal S128x1 .f32) (r : Fin 128) (q : Fin 512) :
    lowR y b (ix2 r q) = cut (fun q : Fin 512 => y (ix2 r q)) (b (ix2 r 0)) q := by
  unfold lowR
  pointwise
  rfl

theorem topC_at (y : FVec Ideal S128x1024 .f32) (r : Fin 1024) :
    topC y (ix2 0 r) = big fun q : Fin 128 => y (ix2 q r) := by
  unfold topC
  pointwise
  rfl

theorem lowC_at (y : FVec Ideal S128x1024 .f32) (b : FVec Ideal S1x1024 .f32) (r : Fin 1024) (q : Fin 128) :
    lowC y b (ix2 q r) = cut (fun q : Fin 128 => y (ix2 q r)) (b (ix2 0 r)) q := by
  unfold lowC
  pointwise
  rfl

/-! ### The four levels of a lane -/

theorem tmax_le (n : ℕ) (f : Fin 64 → FVec Ideal S128x128 .f32) (s : Fin 64) (j : S128x128.Idx) (b : EReal) :
    tmax n f s j ≤ b ↔ ∀ i, i < 2 ^ n → f (s + Fin.ofNat 64 i) j ≤ b := by
  induction n generalizing s with
  | zero =>
    have e : s + Fin.ofNat 64 0 = s := Fin.ext (by simp)
    refine ⟨fun h i hi => ?_, fun h => ?_⟩
    · have hi : i = 0 := by simpa using hi
      subst hi
      rw [e]; exact h
    · have := h 0 (by decide)
      rw [e] at this; exact this
  | succ n ih =>
    have hmax : tmax (n + 1) f s j = max (tmax n f s j) (tmax n f (s + Fin.ofNat 64 (2 ^ n)) j) := rfl
    rw [hmax, max_le_iff, ih, ih]
    have e : ∀ i, s + Fin.ofNat 64 (2 ^ n) + Fin.ofNat 64 i = s + Fin.ofNat 64 (2 ^ n + i) := fun i =>
      Fin.ext (by simp [Fin.val_add, Nat.add_assoc])
    constructor
    · rintro ⟨h₁, h₂⟩ i hi
      by_cases hlt : i < 2 ^ n
      · exact h₁ i hlt
      · have := h₂ (i - 2 ^ n) (by rw [pow_succ] at hi; omega)
        rw [e, Nat.add_sub_cancel' (not_lt.mp hlt)] at this
        exact this
    · intro h
      refine ⟨fun i hi => h i (by rw [pow_succ]; omega), fun i hi => ?_⟩
      rw [e]
      exact h _ (by rw [pow_succ]; omega)

theorem tmax_at (f : Fin 64 → FVec Ideal S128x128 .f32) (j : S128x128.Idx) :
    tmax 6 f 0 j = big fun k => f k j := by
  refine eq_of_forall_ge_iff fun b => ?_
  rw [tmax_le, big_le]
  constructor
  · intro h k
    have := h k.val (by have := k.isLt; omega)
    have e : (0 : Fin 64) + Fin.ofNat 64 k.val = k := by rw [zero_add]; exact Fin.ext (Nat.mod_eq_of_lt k.isLt)
    rw [e] at this; exact this
  · exact fun h i _ => h _

/-- The 64 numbers that a device compares in lane `l` of row `r`. -/
def lane (x : Vec Ideal S128x8192 .f32) (r l : Fin 128) (k : Fin 64) : EReal := x (ix2 r ⟨128 * k.val + l.val, by omega⟩)

theorem below_at (b v : FVec Ideal S128x128 .f32) (j : S128x128.Idx) :
    below b v j = if v j < b j then v j else ⊥ := by
  unfold below
  pointwise
  rfl

variable (x : Vec Ideal S128x8192 .f32) (r l : Fin 128)

theorem lvl1_at : lvl1 x (ix2 r l) = nth (lane x r l) 0 := by
  unfold lvl1
  rw [tmax_at]
  exact congrArg big (funext fun k => piece_at x k r l)

theorem lvl2_at : lvl2 x (ix2 r l) = nth (lane x r l) 1 := by
  unfold lvl2
  rw [tmax_at]
  refine congrArg big (funext fun k => ?_)
  unfold low1
  rw [below_at, piece_at, lvl1_at]
  rfl

theorem lvl3_at : lvl3 x (ix2 r l) = nth (lane x r l) 2 := by
  unfold lvl3
  rw [tmax_at]
  refine congrArg big (funext fun k => ?_)
  unfold low2
  rw [below_at, piece_at, lvl2_at]
  rfl

theorem lvl4_at : lvl4 x (ix2 r l) = nth (lane x r l) 3 := by
  unfold lvl4
  rw [tmax_at]
  refine congrArg big (funext fun k => ?_)
  unfold low3
  rw [below_at, piece_at, lvl3_at]
  rfl

/-- Candidate `128 p + l` of row `r` is the `p`-th largest distinct number of lane `l`. -/
theorem cand_at (p : Fin 4) : cand x (ix2 r ⟨128 * p.val + l.val, by omega⟩) = nth (lane x r l) p.val := by
  unfold cand
  fin_vals p with hp
  · pointwise [hp]
    exact lvl1_at x r l
  · pointwise [hp]
    exact lvl2_at x r l
  · pointwise [hp]
    rw [dif_neg (by omega), dif_neg (by omega), dif_pos (by omega)]
    have e : (⟨256 + l.val - 128 - 128, by omega⟩ : Fin 128) = l := Fin.ext (by show 256 + l.val - 128 - 128 = l.val; omega)
    rw [e]
    exact lvl3_at x r l
  · pointwise [hp]
    rw [dif_neg (by omega), dif_neg (by omega), dif_neg (by omega)]
    have e : (⟨384 + l.val - 128 - 128 - 128, by omega⟩ : Fin 128) = l :=
      Fin.ext (by show 384 + l.val - 128 - 128 - 128 = l.val; omega)
    rw [e]
    exact lvl4_at x r l

/-! ### The rounds over the candidates, and over the four devices' numbers -/

theorem ithR_at (y : FVec Ideal S128x512 .f32) (n : ℕ) : ithR y n (ix2 r 0) = nth (fun q : Fin 512 => y (ix2 r q)) n := by
  induction n with
  | zero => exact topR_at y r
  | succ n ih =>
    show topR (lowR y (ithR y n)) (ix2 r 0) = big (cut _ _)
    rw [topR_at, ← ih]
    exact congrArg big (funext fun q => lowR_at y _ r q)

theorem ithC_at (y : FVec Ideal S128x1024 .f32) (w : Fin 1024) (n : ℕ) :
    ithC y n (ix2 0 w) = nth (fun q : Fin 128 => y (ix2 q w)) n := by
  induction n with
  | zero => exact topC_at y w
  | succ n ih =>
    show topC (lowC y (ithC y n)) (ix2 0 w) = big (cut _ _)
    rw [topC_at, ← ih]
    exact congrArg big (funext fun q => lowC_at y _ w q)

theorem tabR_at (y : FVec Ideal S128x512 .f32) (t : Fin 32) : tabR y (ix2 r t) = ithR y t.val (ix2 r 0) := by
  refine concatenate_ofFn_unit_eq (t := S128x32) (s₁ := S128x1) (1 : Fin 2) (fun n : Fin 32 => ithR y n.val)
    concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1
    (ix2 r t) _ rfl rfl fun n i hn _ hb => ?_
  idx_vars i
  have hn : t.val = n.val := hn
  have h0 : i0 = r := Fin.ext (hb 0 (by decide))
  have h1 : i1 = 0 := Subsingleton.elim _ _
  rw [h0, h1, hn]

theorem tabC_at (y : FVec Ideal S128x1024 .f32) (w : Fin 1024) (t : Fin 32) :
    tabC y (ix2 t w) = ithC y t.val (ix2 0 w) := by
  refine concatenate_ofFn_unit_eq (t := S32x1024) (s₁ := S1x1024) (0 : Fin 2) (fun n : Fin 32 => ithC y n.val)
    concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S32x1024_d0
    (ix2 t w) _ rfl rfl fun n i hn _ hb => ?_
  idx_vars i
  have hn : t.val = n.val := hn
  have h1 : i1 = w := Fin.ext (hb 1 (by decide))
  have h0 : i0 = 0 := Subsingleton.elim _ _
  rw [h0, h1, hn]

theorem localTop_at (t : Fin 32) :
    localTop x (ix3 0 t r) = nth (fun q : Fin 512 => cand x (ix2 r q)) t.val := by
  unfold localTop
  pointwise
  rw [tabR_at, ithR_at]

theorem pool_at (u0 u1 u2 u3 : Vec Ideal S1x32x1024 .f32) (w : Fin 1024) (s : Fin 4) (t : Fin 32) :
    pool u0 u1 u2 u3 (ix2 ⟨32 * s.val + t.val, by omega⟩ w) = (![u0, u1, u2, u3] s) (ix3 0 t w) := by
  unfold pool flat
  pointwise
  rcases s with ⟨s, hs⟩
  interval_cases s
  · dsimp only
    rw [dif_pos (by omega)]
    exact congrArg (fun t => u0 (ix3 0 t w)) (Fin.ext (by show 32 * 0 + t.val = t.val; omega))
  · dsimp only
    rw [dif_neg (by omega), dif_pos (by omega)]
    exact congrArg (fun t => u1 (ix3 0 t w)) (Fin.ext (by show 32 * 1 + t.val - 32 = t.val; omega))
  · dsimp only
    rw [dif_neg (by omega), dif_neg (by omega), dif_pos (by omega)]
    exact congrArg (fun t => u2 (ix3 0 t w)) (Fin.ext (by show 32 * 2 + t.val - 32 - 32 = t.val; omega))
  · dsimp only
    rw [dif_neg (by omega), dif_neg (by omega), dif_neg (by omega)]
    exact congrArg (fun t => u3 (ix3 0 t w)) (Fin.ext (by show 32 * 3 + t.val - 32 - 32 - 32 = t.val; omega))

theorem merged_at (u0 u1 u2 u3 : Vec Ideal S1x32x1024 .f32) (w : Fin 1024) (t : Fin 32) :
    merged u0 u1 u2 u3 (ix2 w t) = nth (fun q : Fin 128 => pool u0 u1 u2 u3 (ix2 q w)) t.val := by
  unfold merged
  pointwise
  rw [tabC_at, ithC_at]

end Cert.TopK

end
-- ==== Proof.Sorted.lean ====
/-
# The reference's value, read at an index over the extended reals

`spot x r k` is the column the reference's sort of row `r` puts at position `k`; every column is put somewhere,
and the numbers in those columns never rise with the position. The reference's result at `(r, n)` is the number in
column `spot x r n`.
-/
module

public import proofs.«01_k».proof.Proof.Met
public import proofs.«01_k».proof.Proof.Ranks
public import Idealize.ShloMosaic.Lib.Pointwise
public import Idealize.ShloMosaic.Lib.SortFacts
public import Idealize.ShloMosaic.Lib.IdealHost

@[expose] public section

set_option maxRecDepth 16384

noncomputable section

namespace Cert.TopK

open Cert.On_rows_met Cert.On_rows_met.Facts Idealize.ShloMosaic

/-- Row `r` of the array. -/
def line (x : FVec Ideal S1024x32768 .f32) (r : Fin 1024) : Fin 32768 → EReal := fun k => x (ix2 r k)

/-- Position `k` is sorted before position `k'`: its number is greater. -/
def ahead (f : Fin 32768 → EReal) (k k' : Fin 32768) : Bool := decide (f k' < f k)

/-- The position whose number the sort puts at position `k`. -/
def spot (f : Fin 32768 → EReal) : Fin 32768 → Fin 32768 := sortedFrom (ahead f)

theorem spot_onto (f : Fin 32768 → EReal) : Function.Surjective (spot f) := sortedFrom_surjective _

theorem spot_falls (f : Fin 32768 → EReal) {i j : Fin 32768} (h : i < j) : f (spot f j) ≤ f (spot f i) := by
  have key := sortedFrom_noInversion (ahead f) (ahead f)
    (fun a b h => by
      simp only [ahead, decide_eq_true_eq, decide_eq_false_iff_not, not_lt] at h ⊢
      exact h.le)
    (fun _ _ h => h)
    (fun a b c h₁ h₂ => by
      simp only [ahead, decide_eq_false_iff_not, not_lt] at h₁ h₂ ⊢
      exact h₁.trans h₂) i j h
  exact not_lt.mp (of_decide_eq_false key)

/-- The sort's test on two keys is the order of the extended reals. -/
theorem comparator_eq (a b : EReal) (i j : BitVec 32) :
    comparator_f32_i32_d1 (F := Ideal) (a, i) (b, j) = BitVec.ofBool (decide (a < b)) := by
  have norm (c : EReal) : Scalar.select (Ideal.cmp .une c c) (Ideal.ofBits .f32 0x7FC00000#32)
      (Scalar.select (Ideal.cmp .oeq c (Ideal.ofBits .f32 0x00000000#32)) (Ideal.ofBits .f32 0x00000000#32) c) = c := by
    have h : Ideal.cmp .une c c = 0#1 := by simp [Ideal.cmp]
    rw [h]
    show Scalar.select _ _ c = c
    by_cases e : c = Ideal.ofBits .f32 0x00000000#32
    · have : Ideal.cmp .oeq c (Ideal.ofBits .f32 0x00000000#32) = 1#1 := by simp [Ideal.cmp, ← e]
      rw [this]; exact e.symm
    · have : Ideal.cmp .oeq c (Ideal.ofBits .f32 0x00000000#32) = 0#1 := by
        show BitVec.ofBool (decide (c = Ideal.ofBits .f32 0x00000000#32)) = 0#1
        rw [decide_eq_false e]; rfl
      rw [this]; rfl
  exact congrArg₂ (Ideal.cmpTotal .lt) (norm a) (norm b)

theorem along_one (r : Fin 1024) (k k' : Fin 32768) :
    Shape.Idx.along (s := S1024x32768) (ix2 r k) (1 : Fin 2) k' = ix2 r k' := by
  funext a
  match a with
  | ⟨0, _⟩ => rfl
  | ⟨1, _⟩ => rfl

theorem iota_at (r : Fin 1024) (k : Fin 32768) :
    iotaInDim S1024x32768 32 1 (ix2 r k) = BitVec.ofNat 32 k.val := rfl

/-- The second operand of a sort of two, at a position. -/
theorem sort2_second {s : Shape} {α β : Type} (d : Nat) (hd : d < s.rank) (cmp : α × β → α × β → BitVec 1)
    (x : s.Idx → α) (y : s.Idx → β) (j : s.Idx) (B : Fin (s.size ⟨d, hd⟩) → Fin (s.size ⟨d, hd⟩) → Bool)
    (hB : ∀ k k', (cmp (x (j.along ⟨d, hd⟩ k), y (j.along ⟨d, hd⟩ k))
      (x (j.along ⟨d, hd⟩ k'), y (j.along ⟨d, hd⟩ k')) == 1#1) = B k k') :
    (Host.sort2 s d cmp x y).2 j = y (j.along ⟨d, hd⟩ (sortedFrom B (j ⟨d, hd⟩))) := by
  obtain rfl : _ = B := funext fun k => funext fun k' => hB k k'
  unfold Host.sort2
  rw [dif_pos hd]

/-- The sort by the negated numbers returns, at position `k`, the word of the column put there. -/
theorem argsort_at (x : FVec Ideal S1024x32768 .f32) (r : Fin 1024) (k : Fin 32768) :
    fn_argsort (F := Ideal) (Host.negf x) (ix2 r k) = BitVec.ofNat 32 (spot (line x r) k).val := by
  have hb (k₁ k₂ : Fin 32768) : (comparator_f32_i32_d1 (F := Ideal)
      (Host.negf x (Shape.Idx.along (s := S1024x32768) (ix2 r k) (1 : Fin 2) k₁),
        iotaInDim S1024x32768 32 1 (Shape.Idx.along (s := S1024x32768) (ix2 r k) (1 : Fin 2) k₁))
      (Host.negf x (Shape.Idx.along (s := S1024x32768) (ix2 r k) (1 : Fin 2) k₂),
        iotaInDim S1024x32768 32 1 (Shape.Idx.along (s := S1024x32768) (ix2 r k) (1 : Fin 2) k₂)) == 1#1)
      = ahead (line x r) k₁ k₂ := by
    rw [along_one, along_one]
    refine (congrArg (· == 1#1) (comparator_eq (-(line x r k₁)) (-(line x r k₂)) _ _)).trans ?_
    unfold ahead
    by_cases h : line x r k₂ < line x r k₁
    · rw [decide_eq_true h, decide_eq_true (EReal.neg_lt_neg_iff.mpr h)]; rfl
    · rw [decide_eq_false h, decide_eq_false (fun h' => h (EReal.neg_lt_neg_iff.mp h'))]; rfl
  have one : 1 < S1024x32768.rank := by decide
  have hs := sort2_second (s := S1024x32768) 1 one comparator_f32_i32_d1 (Host.negf x) (iotaInDim S1024x32768 32 1)
    (ix2 r k) (ahead (line x r)) hb
  have hp : (ix2 r k : S1024x32768.Idx).along ⟨1, one⟩ (sortedFrom (ahead (line x r)) ((ix2 r k : S1024x32768.Idx) ⟨1, one⟩))
      = ix2 r (spot (line x r) k) := along_one r k _
  rw [hp] at hs
  exact hs.trans (iota_at r _)

theorem word_small (k : Fin 32768) : (BitVec.ofNat 32 k.val).toInt = k.val := by
  have := k.isLt
  rw [BitVec.toInt_eq_toNat_of_lt (by rw [BitVec.toNat_ofNat]; omega), BitVec.toNat_ofNat]
  omega

theorem word_not_neg (k : Fin 32768) : IntOp.cmpi .slt (BitVec.ofNat 32 k.val) 0#32 = 0#1 := by
  show BitVec.ofBool ((BitVec.ofNat 32 k.val).slt 0#32) = 0#1
  rw [BitVec.slt_eq_decide, word_small, decide_eq_false (by simp)]
  rfl

theorem word_ge (k : Fin 32768) : IntOp.cmpi .sge (BitVec.ofNat 32 k.val) 0#32 = 1#1 := by
  show BitVec.ofBool ((0#32).sle (BitVec.ofNat 32 k.val)) = 1#1
  rw [BitVec.sle_eq_decide, word_small, decide_eq_true (by simp)]
  rfl

theorem word_le (k : Fin 32768) : IntOp.cmpi .sle (BitVec.ofNat 32 k.val) 32767#32 = 1#1 := by
  have h : ((32767#32 : BitVec 32)).toInt = 32767 := by decide
  have := k.isLt
  show BitVec.ofBool ((BitVec.ofNat 32 k.val).sle 32767#32) = 1#1
  rw [BitVec.sle_eq_decide, word_small, h, decide_eq_true (by omega)]
  rfl

theorem gather_at (x : FVec Ideal S1024x32768 .f32) (idx : IVec S1024x32x1 32) (r : Fin 1024) (n : Fin 32)
    (k : Fin 32768) (h : idx (ix3 r n 0) = BitVec.ofNat 32 k.val) :
    Host.gather gather_S1024x32768_S1024x32x1_S1024x32_n_1_0_0_1_2_11 x idx (ix2 r n) = x (ix2 r k) := by
  let d := gather_S1024x32768_S1024x32x1_S1024x32_n_1_0_0_1_2_11
  refine congrArg x (funext fun a => Fin.ext ?_)
  have hk := k.isLt
  match a with
  | ⟨0, _⟩ =>
    show d.start _ _ (0 : Fin 2) + d.batchCoord _ (0 : Fin 2) + d.offCoord _ (0 : Fin 2) = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    have h0 : (0 : Fin 2) ∈ d.operandBatchingDims := List.mem_singleton.mpr rfl
    unfold GatherDims.batchCoord
    rw [dif_pos h0]
    rfl
  | ⟨1, _⟩ =>
    show d.start _ _ (1 : Fin 2) + d.batchCoord _ (1 : Fin 2) + d.offCoord _ (1 : Fin 2) = k.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    have h1 : (1 : Fin 2) ∈ d.startIndexMap := List.mem_singleton.mpr rfl
    unfold GatherDims.start
    rw [dif_pos h1]
    have hi : d.siIdx (ix2 r n) ⟨List.idxOf (1 : Fin 2) d.startIndexMap, List.idxOf_lt_length_iff.2 h1⟩ = ix3 r n 0 := by
      funext b
      match b with
      | ⟨0, _⟩ => rfl
      | ⟨1, _⟩ => rfl
      | ⟨2, _⟩ => rfl
    rw [hi, h, word_small]
    show min (Int.toNat (k.val : Int)) (32768 - 1) + 0 + 0 = k.val
    rw [Int.toNat_natCast]
    omega

theorem take_at (x : FVec Ideal S1024x32768 .f32) (idx : IVec S1024x32 32) (r : Fin 1024) (n : Fin 32)
    (k : Fin 32768) (h : idx (ix2 r n) = BitVec.ofNat 32 k.val) :
    fn_take_along_axis (F := Ideal) x idx (ix2 r n) = x (ix2 r k) := by
  unfold fn_take_along_axis
  have hin : shapeCast S1024x32x1
          (select (cmpi CmpIPredicate.slt idx (broadcastInDim S1024x32 ![] bcast_S_S1024x32 (constantI S_ 32 0#32)))
            (addi idx (broadcastInDim S1024x32 ![] bcast_S_S1024x32 (constantI S_ 32 32768#32))) idx)
          shapeCasts_S1024x32_S1024x32x1 (ix3 r n 0) = BitVec.ofNat 32 k.val := by
    pointwise
    rw [h, word_not_neg]
    rfl
  pointwise
  rw [gather_at x _ r n k hin, h, word_not_neg]
  show Scalar.select (Finset.fold IntOp.andi (1#1) (fun _ => IntOp.andi
      (IntOp.cmpi .sge (BitVec.ofNat 32 k.val) 0#32) (IntOp.cmpi .sle (BitVec.ofNat 32 k.val) 32767#32))
        (Finset.univ : Finset (Fin 1))) (x (ix2 r k)) _ = _
  rw [word_ge, word_le]
  rfl

/-- The reference's result, as the mask computes it too. -/
def best (x : FVec Ideal S1024x32768 .f32) : FVec Ideal S1024x32 .f32 :=
  fn_take_along_axis (F := Ideal) x
    (extractStridedSlice S1024x32 ![0, 0] (fn_argsort (F := Ideal) (Host.negf x)) slices_S1024x32768_S1024x32_0_0)

/-- Row `f` in the order of the sort. -/
def order (f : Fin 32768 → EReal) (n : ℕ) : EReal := if h : n < 32768 then f (spot f ⟨n, h⟩) else ⊥

theorem best_at (x : FVec Ideal S1024x32768 .f32) (r : Fin 1024) (n : Fin 32) :
    best x (ix2 r n) = order (line x r) n.val := by
  have hn : n.val < 32768 := by omega
  have h : extractStridedSlice S1024x32 ![0, 0] (fn_argsort (F := Ideal) (Host.negf x))
      slices_S1024x32768_S1024x32_0_0 (ix2 r n) = BitVec.ofNat 32 (spot (line x r) ⟨n.val, hn⟩).val := by
    pointwise
    exact argsort_at x r _
  unfold order
  rw [dif_pos hn]
  exact take_at x _ r n _ h

/-- No number of the row lies strictly between two neighbours of the order. -/
theorem fits_order (f : Fin 32768 → EReal) (k : Fin 32768) : Fits (order f) (f k) := by
  obtain ⟨j, rfl⟩ := spot_onto f k
  have fall (n : ℕ) (hn : n < 32768) (h : n ≤ j.val) : f (spot f j) ≤ order f n := by
    unfold order
    rw [dif_pos hn]
    rcases Nat.lt_or_eq_of_le h with h | h
    · exact spot_falls f (i := ⟨n, hn⟩) h
    · have : (⟨n, hn⟩ : Fin 32768) = j := Fin.ext h
      rw [this]
  refine ⟨fall 0 (by omega) (Nat.zero_le _), fun n hn h => ?_⟩
  rcases Nat.lt_or_ge n j.val with hj | hj
  · exact fall (n + 1) (by omega) hj
  · refine absurd h (not_lt.mpr ?_)
    unfold order
    rw [dif_pos (show n < 32768 by omega)]
    rcases Nat.lt_or_eq_of_le hj with hj | hj
    · exact spot_falls f (j := ⟨n, by omega⟩) hj
    · have : (⟨n, by omega⟩ : Fin 32768) = j := Fin.ext hj.symm
      rw [this]

theorem order_in (f : Fin 32768 → EReal) (n : ℕ) (hn : n < 32) : ∃ k, f k = order f n :=
  ⟨spot f ⟨n, by omega⟩, by unfold order; rw [dif_pos]⟩

end Cert.TopK

end
-- ==== Proof.Mask.lean ====
/-
# What the mask says of a row over the extended reals

In a row it keeps, the first 32 numbers of the order strictly fall, and of the 64 numbers a device compares in one
lane at most four reach the last of those 32.
-/
module

public import proofs.«01_k».proof.Proof.Sorted
public import Idealize.ShloMosaic.Lib.IndicatorCount
public import Idealize.ShloMosaic.Lib.ReduceAll

@[expose] public section

set_option maxRecDepth 16384

noncomputable section

namespace Cert.TopK

open Cert.On_rows_met Cert.On_rows_met.Facts Idealize.ShloMosaic

def falling (x : FVec Ideal S1024x32768 .f32) : IVec S1024 1 :=
  Host.reduce IntOp.andi (cmpf .olt (extractStridedSlice S1024x31 ![0, 1] (best x) slices_S1024x32_S1024x31_0_1)
    (extractStridedSlice S1024x31 ![0, 0] (best x) slices_S1024x32_S1024x31_0_0)) (constantI S_ 1 1#1)
    reducesTo_S1024x31_S1024_d1 h_S_

def atLeast (x : FVec Ideal S1024x32768 .f32) : IVec S1024x32768 1 :=
  cmpf .oge x (broadcastInDim S1024x32768 ![0, 1] bcast_S1024x1_S1024x32768_0_1
      (extractStridedSlice S1024x1 ![0, 31] (best x) slices_S1024x32_S1024x1_0_31))

def counts (x : FVec Ideal S1024x32768 .f32) : IVec S1024x4x128 32 :=
  Host.reduce IntOp.addi (extui 32 (shapeCast S1024x4x64x128 (atLeast x)
    shapeCasts_S1024x32768_S1024x4x64x128) natLt_1_32) (constantI S_ 32 0#32)
    reducesTo_S1024x4x64x128_S1024x4x128_d2 h_S_

def within (x : FVec Ideal S1024x32768 .f32) : IVec S1024 1 :=
  Host.reduce IntOp.andi (cmpi .sle (counts x) (broadcastInDim S1024x4x128 ![] bcast_S_S1024x4x128 (constantI S_ 32 4#32)))
    (constantI S_ 1 1#1) reducesTo_S1024x4x128_S1024_d1_2 h_S_

theorem mask_eq (x : FVec Ideal S1024x32768 .f32) : fn (F := Ideal) x
    = broadcastInDim S1024x32 ![0, 1] bcast_S1024x1_S1024x32_0_1
      (broadcastInDim S1024x1 ![0] bcast_S1024_S1024x1_0 (andi (falling x) (within x))) := rfl

theorem mask_at (x : FVec Ideal S1024x32768 .f32) (r : Fin 1024) (n : Fin 32) :
    fn (F := Ideal) x (ix2 r n) = IntOp.andi (falling x (ix1 r)) (within x (ix1 r)) := by
  rw [mask_eq]
  pointwise

theorem bit_one {p : Prop} [Decidable p] (h : BitVec.ofBool (decide p) = 1#1) : p := by
  by_contra hp
  rw [decide_eq_false hp] at h
  exact absurd h (by decide)

theorem olt_at (a b : FVec Ideal S1024x31 .f32) (i : S1024x31.Idx) :
    cmpf .olt a b i = BitVec.ofBool (decide ((a i : EReal) < b i)) := rfl

theorem falling_of (x : FVec Ideal S1024x32768 .f32) (r : Fin 1024) (h : falling x (ix1 r) = 1#1) (n : ℕ) (hn : n < 31) :
    order (line x r) (n + 1) < order (line x r) n := by
  have hd : reducesTo_S1024x31_S1024_d1.drop (ix2 r ⟨n, hn⟩ : S1024x31.Idx) = ix1 r := by
    funext b
    match b with
    | ⟨0, _⟩ => exact Fin.ext (Shape.ReducesTo.drop_apply_val reducesTo_S1024x31_S1024_d1 (ix2 r ⟨n, hn⟩ : S1024x31.Idx) 0)
  unfold falling at h
  have e := Host.reduce_andi_eq_one _ _ _ _ _ h (ix2 r ⟨n, hn⟩ : S1024x31.Idx) hd
  have e1 : extractStridedSlice S1024x31 ![0, 1] (best x) slices_S1024x32_S1024x31_0_1 (ix2 r ⟨n, hn⟩)
      = order (line x r) (n + 1) := by
    pointwise
    rw [best_at]
    exact congrArg _ (Nat.add_comm 1 n)
  have e0 : extractStridedSlice S1024x31 ![0, 0] (best x) slices_S1024x32_S1024x31_0_0 (ix2 r ⟨n, hn⟩)
      = order (line x r) n := by
    pointwise
    rw [best_at]
  rw [olt_at, e1, e0] at e
  exact bit_one e

theorem atLeast_at (x : FVec Ideal S1024x32768 .f32) (r : Fin 1024) (k : Fin 32768) :
    atLeast x (ix2 r k) = 1#1 ↔ order (line x r) 31 ≤ line x r k := by
  have e : atLeast x (ix2 r k) = BitVec.ofBool (decide (order (line x r) 31 ≤ line x r k)) := by
    unfold atLeast
    pointwise
    rw [best_at]
    rfl
  rw [e]
  exact ⟨bit_one, fun h => by rw [decide_eq_true h]; rfl⟩

/-- How many numbers of row `r` in the lane `l` of device `s` reach the last of the 32. -/
def reach (x : FVec Ideal S1024x32768 .f32) (r : Fin 1024) (s : Fin 4) (l : Fin 128) : Finset (Fin 64) :=
  Finset.univ.filter fun k : Fin 64 => order (line x r) 31 ≤ line x r ⟨s.val * 8192 + k.val * 128 + l.val, by omega⟩

theorem counts_at (x : FVec Ideal S1024x32768 .f32) (r : Fin 1024) (s : Fin 4) (l : Fin 128) :
    counts x (ix3 r s l) = BitVec.ofNat 32 (reach x r s l).card := by
  have e : counts x (ix3 r s l) = Finset.fold IntOp.addi (0#32)
      (fun k : Fin 64 => BitVec.setWidth 32 (atLeast x (ix2 r ⟨s.val * 8192 + k.val * 128 + l.val, by omega⟩)))
      Finset.univ := by
    unfold counts
    pointwise
  rw [e, IndicatorCount.fold_addi_setWidth_eq_card]
  unfold reach
  refine congrArg (fun S : Finset (Fin 64) => BitVec.ofNat 32 S.card) (Finset.filter_congr fun k _ => ?_)
  exact atLeast_at x r _

theorem within_of (x : FVec Ideal S1024x32768 .f32) (r : Fin 1024) (h : within x (ix1 r) = 1#1) (s : Fin 4) (l : Fin 128) :
    (reach x r s l).card ≤ 4 := by
  have hd : reducesTo_S1024x4x128_S1024_d1_2.drop (ix3 r s l : S1024x4x128.Idx) = ix1 r := by
    funext b
    match b with
    | ⟨0, _⟩ => exact Fin.ext (Shape.ReducesTo.drop_apply_val reducesTo_S1024x4x128_S1024_d1_2 (ix3 r s l : S1024x4x128.Idx) 0)
  have e := Host.reduce_andi_eq_one _ _ _ _ _ h (ix3 r s l : S1024x4x128.Idx) hd
  have e' : BitVec.ofBool ((counts x (ix3 r s l)).sle 4#32) = 1#1 := e
  rw [BitVec.sle_eq_decide, counts_at] at e'
  have hc : (reach x r s l).card ≤ 64 := (Finset.card_le_univ _).trans_eq (Fintype.card_fin 64)
  have hi : (BitVec.ofNat 32 (reach x r s l).card).toInt = (reach x r s l).card := by
    rw [BitVec.toInt_eq_toNat_of_lt (by rw [BitVec.toNat_ofNat]; omega), BitVec.toNat_ofNat]
    omega
  have h4 : (4#32 : BitVec 32).toInt = 4 := by decide
  have := bit_one e'
  rw [hi, h4] at this
  omega

/-- What the mask gives at a row it keeps. -/
theorem row_met (x : FVec Ideal S1024x32768 .f32) (r : Fin 1024) (n : Fin 32) (h : fn (F := Ideal) x (ix2 r n) = 1#1) :
    (∀ n < 31, order (line x r) (n + 1) < order (line x r) n) ∧ ∀ s l, (reach x r s l).card ≤ 4 := by
  rw [mask_at] at h
  obtain ⟨h₁, h₂⟩ := IntOp.andi_eq_one.1 h
  exact ⟨fun n hn => falling_of x r h₁ n hn, within_of x r h₂⟩

end Cert.TopK

end
-- ==== Proof.Value.lean ====
/-
# The kernel's value and the reference's, at the rows the mask keeps

Every number the rounds can pick is one of the row's own numbers or `⊥`, so none lies strictly between two
neighbours of the row's order. Each of the first 32 of that order survives: it reaches the candidates of its device
because at most four numbers of its lane reach the last of the 32, then the device's 32 because at most 31 numbers
are above it, then the pool. So the last 32 rounds return those 32.
-/
module

public import proofs.«01_k».proof.Proof.Frames
public import proofs.«01_k».proof.Proof.Rounds
public import proofs.«01_k».proof.Proof.Mask
public import proofs.«01_k».proof.Proof.Gen.ReferenceIdeal.Run

@[expose] public section

set_option maxRecDepth 16384

noncomputable section

namespace Cert.TopK

open Cert.KernelIdeal Cert.KernelIdeal.Gen
open Idealize.ShloMosaic Idealize.SL.Sem
open Idealize.ShloMosaic.TcCoe

variable (m : (ℓ : Loc nD τ sig) → Buf (Elt Ideal) ℓ) (X : FVec Ideal Cert.On_rows_met.S1024x32768 .f32)

/-- Every device's argument is its block of columns of `X`. -/
def Cut : Prop := ∀ c : Dev nD,
  m ((c.tc : Thread nD τ).loc main_arg0) = Layout.block ⟨2, ![1024, 8192]⟩ ⟨2, ![1024, 32768]⟩ 1 4 c X

theorem index_rows (t : Fin cfg0.N) : win0_0.index t 0 = t.val := by revert t; decide

theorem index_cols (t : Fin cfg0.N) : win0_0.index t 1 = 0 := by revert t; decide

variable {m X}

theorem xblk_at (hm : Cut m X) (s : Fin 4) (b : Fin 8) (r : Fin 128) (k : Fin 8192) :
    xblk m s b (ix2 r k) = line X ⟨128 * b.val + r.val, by omega⟩ ⟨s.val * 8192 + k.val, by omega⟩ := by
  have e : (win0_0.rect (Fin.cast N_0.symm b)).emb (ix2 r k : S128x8192.Idx)
      = (ix2 ⟨128 * b.val + r.val, by omega⟩ k : S1024x8192.Idx) := by
    funext a
    match a with
    | ⟨0, _⟩ =>
      refine Fin.ext ((win0_0.rect_emb_val _ _ _).trans ?_)
      show win0_0.index _ 0 * 128 + r.val = 128 * b.val + r.val
      rw [index_rows]
      show b.val * 128 + r.val = _
      omega
    | ⟨1, _⟩ => exact Fin.ext (win0_0.rect_emb_val_of_index_zero _ _ (index_cols _) _)
  have h : xblk m s b (ix2 r k) = m (((show Dev nD from s).tc : Thread nD τ).loc main_arg0) (ix2 ⟨128 * b.val + r.val, by omega⟩ k) :=
    congrArg (m (((show Dev nD from s).tc : Thread nD τ).loc main_arg0)) e
  rw [h, hm]
  refine congrArg X (funext fun a => ?_)
  match a with
  | ⟨0, _⟩ => rfl
  | ⟨1, _⟩ => rfl

theorem row_at (s : Fin 4) (t : Fin 32) (w : Fin 1024) :
    row m s (Idealize.ShloMosaic.ix3 0 t w)
      = nth (fun q : Fin 512 => cand (xblk m s ⟨w.val / 128, by omega⟩) (ix2 ⟨w.val % 128, by omega⟩ q)) t.val := by
  rw [← localTop_at]
  unfold row final
  have e (a b : Fin 4) (c d : Fin 8) (x y : S1x32x128.Idx) (h₁ : a = b) (h₂ : c = d) (h₃ : x = y) :
      localTop (xblk m a c) x = localTop (xblk m b d) y := by subst h₁ h₂ h₃; rfl
  refine e _ _ _ _ _ _ (Fin.ext ?_) (Fin.ext ?_) ?_
  · show s.val + 1 * 0 = s.val; omega
  · show (0 + 1 * w.val) / 128 = w.val / 128; rw [Nat.zero_add, Nat.one_mul]
  · funext a
    match a with
    | ⟨0, _⟩ => rfl
    | ⟨1, _⟩ => exact Fin.ext (show 0 + 1 * t.val = t.val by omega)
    | ⟨2, _⟩ => exact Fin.ext (show (0 + 1 * w.val) % 128 = w.val % 128 by rw [Nat.zero_add, Nat.one_mul])

/-- Row `w` of device `s`, by lane. -/
theorem lane_at (hm : Cut m X) (s : Fin 4) (w : Fin 1024) (l : Fin 128) (k : Fin 64) :
    lane (xblk m s ⟨w.val / 128, by omega⟩) ⟨w.val % 128, by omega⟩ l k
      = line X w ⟨s.val * 8192 + k.val * 128 + l.val, by omega⟩ := by
  unfold lane
  rw [xblk_at hm]
  exact congrArg₂ (line X) (Fin.ext (show 128 * (w.val / 128) + w.val % 128 = w.val by omega))
    (Fin.ext (show s.val * 8192 + (128 * k.val + l.val) = s.val * 8192 + k.val * 128 + l.val by omega))

theorem fits_cand (hm : Cut m X) (s : Fin 4) (w : Fin 1024) (q : Fin 512) :
    Fits (order (line X w)) (cand (xblk m s ⟨w.val / 128, by omega⟩) (ix2 ⟨w.val % 128, by omega⟩ q)) := by
  have hq : q = ⟨128 * (⟨q.val / 128, by omega⟩ : Fin 4).val + (⟨q.val % 128, by omega⟩ : Fin 128).val, by
      show 128 * (q.val / 128) + q.val % 128 < 512; omega⟩ :=
    Fin.ext (show q.val = 128 * (q.val / 128) + q.val % 128 by omega)
  rw [hq, cand_at]
  refine fits_nth (fun k => ?_) _
  rw [lane_at hm]
  exact fits_order _ _

theorem pool_row (q : Fin 128) (w : Fin 1024) :
    pool (row m 0) (row m 1) (row m 2) (row m 3) (ix2 q w)
      = row m ⟨q.val / 32, by omega⟩ (Idealize.ShloMosaic.ix3 0 ⟨q.val % 32, by omega⟩ w) := by
  have hq : q = ⟨32 * (⟨q.val / 32, by omega⟩ : Fin 4).val + (⟨q.val % 32, by omega⟩ : Fin 32).val, by
      show 32 * (q.val / 32) + q.val % 32 < 128; omega⟩ :=
    Fin.ext (show q.val = 32 * (q.val / 32) + q.val % 32 by omega)
  have hv (s : Fin 4) : (![row m 0, row m 1, row m 2, row m 3] : Fin 4 → _) s = row m s := by
    rcases s with ⟨s, hs⟩
    interval_cases s <;> rfl
  refine (congrArg (fun q => pool (row m 0) (row m 1) (row m 2) (row m 3) (ix2 q w)) hq).trans ?_
  exact (pool_at _ _ _ _ w _ _).trans (congrFun (hv _) _)

theorem fits_pool (hm : Cut m X) (w : Fin 1024) (q : Fin 128) :
    Fits (order (line X w)) (pool (row m 0) (row m 1) (row m 2) (row m 3) (ix2 q w)) := by
  rw [pool_row, row_at]
  exact fits_nth (fits_cand hm _ w) _

/-- Each of the first 32 of the row's order is in the pool. -/
theorem in_pool (hm : Cut m X) (w : Fin 1024) (hdec : ∀ n < 31, order (line X w) (n + 1) < order (line X w) n)
    (hfew : ∀ s l, (reach X w s l).card ≤ 4) (n : ℕ) (hn : n < 32) :
    ∃ q : Fin 128, pool (row m 0) (row m 1) (row m 2) (row m 3) (ix2 q w) = order (line X w) n := by
  obtain ⟨j, hj⟩ := order_in (line X w) n hn
  have hlast : order (line X w) 31 ≤ order (line X w) n := by
    have : ∀ d, n + d < 32 → order (line X w) (n + d) ≤ order (line X w) n := by
      intro d
      induction d with
      | zero => intro _; exact le_refl _
      | succ d ih => intro h; exact (hdec (n + d) (by omega)).le.trans (ih (by omega))
    have h := this (31 - n) (by omega)
    rwa [show n + (31 - n) = 31 by omega] at h
  let s : Fin 4 := ⟨j.val / 8192, by omega⟩
  let k₀ : Fin 64 := ⟨j.val % 8192 / 128, by omega⟩
  let l : Fin 128 := ⟨j.val % 128, by omega⟩
  let f : Fin 64 → EReal := lane (xblk m s ⟨w.val / 128, by omega⟩) ⟨w.val % 128, by omega⟩ l
  have hk₀ : f k₀ = order (line X w) n := by
    refine (lane_at hm s w l k₀).trans (Eq.trans (congrArg (line X w) (Fin.ext ?_)) hj)
    show j.val / 8192 * 8192 + j.val % 8192 / 128 * 128 + j.val % 128 = j.val
    omega
  have hc : (Finset.univ.filter fun k => f k₀ ≤ f k).card ≤ 3 + 1 := by
    refine (Finset.card_le_card fun k hk => ?_).trans (hfew s l)
    have h := (Finset.mem_filter.mp hk).2
    refine Finset.mem_filter.mpr ⟨Finset.mem_univ _, ?_⟩
    rw [hk₀] at h
    exact (hlast.trans h).trans_eq (lane_at hm s w l k)
  obtain ⟨p, hp, hp'⟩ := found_by_count f k₀ 3 hc
  obtain ⟨t, ht, ht'⟩ := found_by_rank (fits_cand hm s w) n hn ⟨128 * (⟨p, by omega⟩ : Fin 4).val + l.val, by
      show 128 * p + j.val % 128 < 512; omega⟩ (by rw [cand_at]; exact hp'.trans hk₀)
  refine ⟨⟨32 * s.val + t, by omega⟩, ?_⟩
  rw [pool_row]
  have e1 : (⟨(32 * s.val + t) / 32, by omega⟩ : Fin 4) = s := Fin.ext (show (32 * s.val + t) / 32 = s.val by omega)
  have e2 : (⟨(32 * s.val + t) % 32, by omega⟩ : Fin 32) = ⟨t, by omega⟩ := Fin.ext (show (32 * s.val + t) % 32 = t by omega)
  rw [e1, e2, row_at]
  exact ht'

/-- At a row the mask keeps, the kernel's result is the reference's. -/
theorem outAt_eq (hm : Cut m X) (i : S1024x32.Idx) (h : Cert.On_rows_met.fn (F := Ideal) X i = 1#1) :
    outAt m i = best X i := by
  idx_vars i
  obtain ⟨hdec, hfew⟩ := row_met X i0 i1 h
  rw [best_at]
  unfold outAt
  rw [merged_at]
  exact nth_eq (fits_pool hm i0) hdec (in_pool hm i0 hdec hfew) i1.val i1.isLt

/-- Every run of the reference: the result and the argument. -/
theorem run_reference (m' : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal)))
      ⟨m', fun _ => 0, ρ⟩ fun r => ∀ c : Dev Cert.ReferenceIdeal.nD,
        r.2.mem ((c.tc : Thread Cert.ReferenceIdeal.nD Cert.ReferenceIdeal.τ).loc Cert.ReferenceIdeal.main_v3)
          = best (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0) :=
  (θ_run Cert.ReferenceIdeal.defs _ _).mono (fun _ h c => ⟨(h c).1.trans rfl, (h c).2⟩)
    (Cert.ReferenceIdeal.Value.run (F := Ideal) m' ρ)

/-- The kernel computes the reference's result at the rows the mask keeps. -/
theorem values : Cert.algebraic_KernelIdeal_ReferenceIdeal_on_rows_met := fun m g m' g' _ hm =>
  ⟨best (m' (((0 : Dev Cert.ReferenceIdeal.nD).tc : Thread Cert.ReferenceIdeal.nD Cert.ReferenceIdeal.τ).loc
      Cert.ReferenceIdeal.main_arg0)),
    (θ_run defs _ _).mono
      (fun _ h c => ⟨fun i hi => (congrFun (h.1 c).1 i).trans (outAt_eq hm i hi), (h.1 c).2⟩) (run_kernel m g),
    (θ_run Cert.ReferenceIdeal.defs _ _).mono
      (fun _ h => ⟨fun i _ => congrFun (h 0).1 i, (h 0).2⟩) (run_reference m' g')⟩

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Refer
public import proofs.«01_k».proof.Proof.Met
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.TopK.met,
  Cert.TopK.frame_bits, Cert.TopK.frame_ideal, Cert.TopK.frame_reference, trivial, Cert.TopK.values⟩

end Cert.Proof

end
